-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x12 : Shape := ⟨2, ![2, 12]⟩
abbrev S2x1x192x224x192 : Shape := ⟨5, ![2, 1, 192, 224, 192]⟩
abbrev S2x1x12 : Shape := ⟨3, ![2, 1, 12]⟩
abbrev S_ : Shape := ⟨0, ![]⟩
abbrev S2x1x128 : Shape := ⟨3, ![2, 1, 128]⟩
abbrev S1x1x128 : Shape := ⟨3, ![1, 1, 128]⟩
abbrev S1x1x6x224x192 : Shape := ⟨5, ![1, 1, 6, 224, 192]⟩
abbrev S4 : Shape := ⟨1, ![4]⟩
abbrev S4x64x64 : Shape := ⟨3, ![4, 64, 64]⟩
abbrev S1 : Shape := ⟨1, ![1]⟩
abbrev S6x224x192 : Shape := ⟨3, ![6, 224, 192]⟩
abbrev S1x6x224x192 : Shape := ⟨4, ![1, 6, 224, 192]⟩
abbrev S1x1x1x1 : Shape := ⟨4, ![1, 1, 1, 1]⟩
abbrev S64x192 : Shape := ⟨2, ![64, 192]⟩
abbrev S1x1x1x32x192 : Shape := ⟨5, ![1, 1, 1, 32, 192]⟩
abbrev S32x192 : Shape := ⟨2, ![32, 192]⟩
abbrev S1x64x64 : Shape := ⟨3, ![1, 64, 64]⟩
abbrev S64x64 : Shape := ⟨2, ![64, 64]⟩
abbrev S1x192 : Shape := ⟨2, ![1, 192]⟩
abbrev S1x1x1 : Shape := ⟨3, ![1, 1, 1]⟩
abbrev S64 : Shape := ⟨1, ![64]⟩
abbrev S64x1 : Shape := ⟨2, ![64, 1]⟩
abbrev S1x64 : Shape := ⟨2, ![1, 64]⟩
abbrev S1x64x1 : Shape := ⟨3, ![1, 64, 1]⟩
abbrev S1x1x64 : Shape := ⟨3, ![1, 1, 64]⟩
abbrev S1x128 : Shape := ⟨2, ![1, 128]⟩
abbrev S2x1x1 : Shape := ⟨3, ![2, 1, 1]⟩
abbrev S2 : Shape := ⟨1, ![2]⟩

abbrev nBuf : Space → Nat
  | .hbm => 27
  | .vmem => 11
  | .smem => 1
  | _ => 0

abbrev bufTy : (tb : Table) → Fin (tcTables nBuf tb) → BufTy
  | .hbm, ⟨0, _⟩ => ⟨S2x12, .f32⟩
  | .hbm, ⟨1, _⟩ => ⟨S2x12, .f32⟩
  | .hbm, ⟨2, _⟩ => ⟨S2x1x192x224x192, .f32⟩
  | .hbm, ⟨3, _⟩ => ⟨S2x1x192x224x192, .f32⟩
  | .hbm, ⟨4, _⟩ => ⟨S2x1x12, .f32⟩
  | .hbm, ⟨5, _⟩ => ⟨S_, .i32⟩
  | .hbm, ⟨6, _⟩ => ⟨S_, .f32⟩
  | .hbm, ⟨7, _⟩ => ⟨S2x1x128, .f32⟩
  | .hbm, ⟨8, _⟩ => ⟨S2x1x12, .f32⟩
  | .hbm, ⟨9, _⟩ => ⟨S_, .i32⟩
  | .hbm, ⟨10, _⟩ => ⟨S_, .f32⟩
  | .hbm, ⟨11, _⟩ => ⟨S2x1x128, .f32⟩
  | .hbm, ⟨12, _⟩ => ⟨S2x1x128, .f32⟩
  | .hbm, ⟨13, _⟩ => ⟨S2x1x1, .f32⟩
  | .hbm, ⟨14, _⟩ => ⟨S2, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x1x1, .f32⟩
  | .hbm, ⟨20, _⟩ => ⟨S2, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1x1x128, .f32⟩
  | .local _ .vmem, ⟨1, _⟩ => ⟨S1x1x128, .f32⟩
  | .local _ .vmem, ⟨2, _⟩ => ⟨S1x1x128, .f32⟩
  | .local _ .vmem, ⟨3, _⟩ => ⟨S1x1x128, .f32⟩
  | .local _ .vmem, ⟨4, _⟩ => ⟨S1x1x6x224x192, .f32⟩
  | .local _ .vmem, ⟨5, _⟩ => ⟨S1x1x6x224x192, .f32⟩
  | .local _ .vmem, ⟨6, _⟩ => ⟨S1x1x6x224x192, .f32⟩
  | .local _ .vmem, ⟨7, _⟩ => ⟨S1x1x6x224x192, .f32⟩
  | .local _ .vmem, ⟨8, _⟩ => ⟨S1x1x128, .f32⟩
  | .local _ .vmem, ⟨9, _⟩ => ⟨S1x1x128, .f32⟩
  | .local _ .vmem, ⟨10, _⟩ => ⟨S4x64x64, .f32⟩
  | .local _ .smem, ⟨0, _⟩ => ⟨S4, .f32⟩
  | _, _ => ⟨S2x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch1 : Ref sig .tc := ⟨.vmem, 10, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 32], ![false, false, false]⟩

def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_4 : BitVec 32 := 0#32
  let v10 : BitVec 1 := Scalar.cmpi .ne v9 c0_i32_4
  v10

@[reducible] def k0_t1_loop : Scf.Loop 32 :=
  let c0_i32_10 : BitVec 32 := 0#32
  let c7_i32 : BitVec 32 := 7#32
  let v26 : BitVec 32 := Scalar.addi c0_i32_10 c7_i32
  let c1_i32_11 : BitVec 32 := 1#32
  ⟨c0_i32_10, v26, c1_i32_11⟩
def k0_off1 (k0_t1 : Fin k0_t1_loop.trips) : Fin 5 → Nat :=
  let c0_34 : Index := 0#32
  let c0_35 : Index := 0#32
  let c0_36 : Index := 0#32
  let c0_i32_10 : BitVec 32 := 0#32
  let c1_i32_11 : BitVec 32 := 1#32
  let arg10 : BitVec 32 := Scf.iv c0_i32_10 c1_i32_11 k0_t1
  let c32_i32 : BitVec 32 := 32#32
  let v35 : BitVec 32 := Scalar.muli arg10 c32_i32
  let v36 : Index := Scalar.indexCast v35
  let c0_37 : Index := 0#32
  ![0, 0, 0, v36.toNat, 0]
@[reducible] def k0_t2_loop : Scf.Loop 32 :=
  let c0_i32_13 : BitVec 32 := 0#32
  let c7_i32_14 : BitVec 32 := 7#32
  let v27 : BitVec 32 := Scalar.addi c0_i32_13 c7_i32_14
  let c1_i32_15 : BitVec 32 := 1#32
  ⟨c0_i32_13, v27, c1_i32_15⟩
def k0_off2 (k0_t2 : Fin k0_t2_loop.trips) : Fin 5 → Nat :=
  let c0_34 : Index := 0#32
  let c0_35 : Index := 0#32
  let c1_36 : Index := 1#32
  let c0_i32_13 : BitVec 32 := 0#32
  let c1_i32_15 : BitVec 32 := 1#32
  let arg10 : BitVec 32 := Scf.iv c0_i32_13 c1_i32_15 k0_t2
  let c32_i32 : BitVec 32 := 32#32
  let v35 : BitVec 32 := Scalar.muli arg10 c32_i32
  let v36 : Index := Scalar.indexCast v35
  let c0_37 : Index := 0#32
  ![0, 0, 1, v36.toNat, 0]
@[reducible] def k0_t3_loop : Scf.Loop 32 :=
  let c0_i32_17 : BitVec 32 := 0#32
  let c7_i32_18 : BitVec 32 := 7#32
  let v28 : BitVec 32 := Scalar.addi c0_i32_17 c7_i32_18
  let c1_i32_19 : BitVec 32 := 1#32
  ⟨c0_i32_17, v28, c1_i32_19⟩
def k0_off3 (k0_t3 : Fin k0_t3_loop.trips) : Fin 5 → Nat :=
  let c0_34 : Index := 0#32
  let c0_35 : Index := 0#32
  let c2_36 : Index := 2#32
  let c0_i32_17 : BitVec 32 := 0#32
  let c1_i32_19 : BitVec 32 := 1#32
  let arg10 : BitVec 32 := Scf.iv c0_i32_17 c1_i32_19 k0_t3
  let c32_i32 : BitVec 32 := 32#32
  let v35 : BitVec 32 := Scalar.muli arg10 c32_i32
  let v36 : Index := Scalar.indexCast v35
  let c0_37 : Index := 0#32
  ![0, 0, 2, v36.toNat, 0]
@[reducible] def k0_t4_loop : Scf.Loop 32 :=
  let c0_i32_21 : BitVec 32 := 0#32
  let c7_i32_22 : BitVec 32 := 7#32
  let v29 : BitVec 32 := Scalar.addi c0_i32_21 c7_i32_22
  let c1_i32_23 : BitVec 32 := 1#32
  ⟨c0_i32_21, v29, c1_i32_23⟩
def k0_off4 (k0_t4 : Fin k0_t4_loop.trips) : Fin 5 → Nat :=
  let c0_34 : Index := 0#32
  let c0_35 : Index := 0#32
  let c3_36 : Index := 3#32
  let c0_i32_21 : BitVec 32 := 0#32
  let c1_i32_23 : BitVec 32 := 1#32
  let arg10 : BitVec 32 := Scf.iv c0_i32_21 c1_i32_23 k0_t4
  let c32_i32 : BitVec 32 := 32#32
  let v35 : BitVec 32 := Scalar.muli arg10 c32_i32
  let v36 : Index := Scalar.indexCast v35
  let c0_37 : Index := 0#32
  ![0, 0, 3, v36.toNat, 0]
@[reducible] def k0_t5_loop : Scf.Loop 32 :=
  let c0_i32_25 : BitVec 32 := 0#32
  let c7_i32_26 : BitVec 32 := 7#32
  let v30 : BitVec 32 := Scalar.addi c0_i32_25 c7_i32_26
  let c1_i32_27 : BitVec 32 := 1#32
  ⟨c0_i32_25, v30, c1_i32_27⟩
def k0_off5 (k0_t5 : Fin k0_t5_loop.trips) : Fin 5 → Nat :=
  let c0_34 : Index := 0#32
  let c0_35 : Index := 0#32
  let c4 : Index := 4#32
  let c0_i32_25 : BitVec 32 := 0#32
  let c1_i32_27 : BitVec 32 := 1#32
  let arg10 : BitVec 32 := Scf.iv c0_i32_25 c1_i32_27 k0_t5
  let c32_i32 : BitVec 32 := 32#32
  let v35 : BitVec 32 := Scalar.muli arg10 c32_i32
  let v36 : Index := Scalar.indexCast v35
  let c0_36 : Index := 0#32
  ![0, 0, 4, v36.toNat, 0]
@[reducible] def k0_t6_loop : Scf.Loop 32 :=
  let c0_i32_29 : BitVec 32 := 0#32
  let c7_i32_30 : BitVec 32 := 7#32
  let v31 : BitVec 32 := Scalar.addi c0_i32_29 c7_i32_30
  let c1_i32_31 : BitVec 32 := 1#32
  ⟨c0_i32_29, v31, c1_i32_31⟩
def k0_off6 (k0_t6 : Fin k0_t6_loop.trips) : Fin 5 → Nat :=
  let c0_34 : Index := 0#32
  let c0_35 : Index := 0#32
  let c5 : Index := 5#32
  let c0_i32_29 : BitVec 32 := 0#32
  let c1_i32_31 : BitVec 32 := 1#32
  let arg10 : BitVec 32 := Scf.iv c0_i32_29 c1_i32_31 k0_t6
  let c32_i32 : BitVec 32 := 32#32
  let v35 : BitVec 32 := Scalar.muli arg10 c32_i32
  let v36 : Index := Scalar.indexCast v35
  let c0_36 : Index := 0#32
  ![0, 0, 5, v36.toNat, 0]
def k0_cond5 (i : grid0.Coords) : BitVec 1 :=
  let arg2 : BitVec 32 := BitVec.ofNat 32 (i 2).val
  let c31_i32 : BitVec 32 := 31#32
  let v32 : BitVec 1 := Scalar.cmpi .eq arg2 c31_i32
  let v33 : BitVec 32 := Scalar.extui v32
  let c0_i32_33 : BitVec 32 := 0#32
  let v34 : BitVec 1 := Scalar.cmpi .ne v33 c0_i32_33
  v34

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg2.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg2.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x6x224x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x6x224x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== ReferenceIdeal.lean ====
abbrev S2x12 : Shape := ⟨2, ![2, 12]⟩
abbrev S2x1x192x224x192 : Shape := ⟨5, ![2, 1, 192, 224, 192]⟩
abbrev S_ : Shape := ⟨0, ![]⟩
abbrev S2x192x224x192 : Shape := ⟨4, ![2, 192, 224, 192]⟩
abbrev S2x8257536 : Shape := ⟨2, ![2, 8257536]⟩
abbrev S2 : Shape := ⟨1, ![2]⟩
abbrev S2x1 : Shape := ⟨2, ![2, 1]⟩
abbrev S16515072 : Shape := ⟨1, ![16515072]⟩
abbrev S8192 : Shape := ⟨1, ![8192]⟩
abbrev S16515072x1 : Shape := ⟨2, ![16515072, 1]⟩
abbrev S2x64x64 : Shape := ⟨3, ![2, 64, 64]⟩
abbrev S2x1x1 : Shape := ⟨3, ![2, 1, 1]⟩
abbrev S2x64 : Shape := ⟨2, ![2, 64]⟩

abbrev nBuf : Space → Nat
  | .hbm => 141
  | .vmem => 0
  | .smem => 0
  | _ => 0

abbrev hbmTy0_0 (i : Nat) : BufTy := match i % 128 with
  | 0 => ⟨S2x12, .f32⟩
  | 1 => ⟨S2x12, .f32⟩
  | 2 => ⟨S2x1x192x224x192, .f32⟩
  | 3 => ⟨S2x1x192x224x192, .f32⟩
  | 4 => ⟨S2x12, .f32⟩
  | 5 => ⟨S2x12, .f32⟩
  | 6 => ⟨S_, .f32⟩
  | 7 => ⟨S_, .f32⟩
  | 8 => ⟨S_, .f32⟩
  | 9 => ⟨S_, .f32⟩
  | 10 => ⟨S2x192x224x192, .f32⟩
  | 11 => ⟨S2x8257536, .f32⟩
  | 12 => ⟨S2x192x224x192, .f32⟩
  | 13 => ⟨S2x8257536, .f32⟩
  | 14 => ⟨S_, .f32⟩
  | 15 => ⟨S2, .f32⟩
  | 16 => ⟨S2x1, .f32⟩
  | 17 => ⟨S_, .f32⟩
  | 18 => ⟨S2, .f32⟩
  | 19 => ⟨S2x1, .f32⟩
  | 20 => ⟨S2x8257536, .f32⟩
  | 21 => ⟨S2x8257536, .f32⟩
  | 22 => ⟨S2x1, .f32⟩
  | 23 => ⟨S_, .f32⟩
  | 24 => ⟨S2x1, .f32⟩
  | 25 => ⟨S2x1, .f32⟩
  | 26 => ⟨S2x8257536, .f32⟩
  | 27 => ⟨S2x8257536, .f32⟩
  | 28 => ⟨S_, .f32⟩
  | 29 => ⟨S2x8257536, .f32⟩
  | 30 => ⟨S2x8257536, .f32⟩
  | 31 => ⟨S2x8257536, .i32⟩
  | 32 => ⟨S_, .i32⟩
  | 33 => ⟨S_, .i32⟩
  | 34 => ⟨S_, .i32⟩
  | 35 => ⟨S2x8257536, .i32⟩
  | 36 => ⟨S2x8257536, .i32⟩
  | 37 => ⟨S_, .i32⟩
  | 38 => ⟨S2x8257536, .i32⟩
  | 39 => ⟨S2x8257536, .i32⟩
  | 40 => ⟨S_, .f32⟩
  | 41 => ⟨S2, .f32⟩
  | 42 => ⟨S2x1, .f32⟩
  | 43 => ⟨S_, .f32⟩
  | 44 => ⟨S2, .f32⟩
  | 45 => ⟨S2x1, .f32⟩
  | 46 => ⟨S2x8257536, .f32⟩
  | 47 => ⟨S2x8257536, .f32⟩
  | 48 => ⟨S2x1, .f32⟩
  | 49 => ⟨S_, .f32⟩
  | 50 => ⟨S2x1, .f32⟩
  | 51 => ⟨S2x1, .f32⟩
  | 52 => ⟨S2x8257536, .f32⟩
  | 53 => ⟨S2x8257536, .f32⟩
  | 54 => ⟨S_, .f32⟩
  | 55 => ⟨S2x8257536, .f32⟩
  | 56 => ⟨S2x8257536, .f32⟩
  | 57 => ⟨S2x8257536, .i32⟩
  | 58 => ⟨S_, .i32⟩
  | 59 => ⟨S_, .i32⟩
  | 60 => ⟨S_, .i32⟩
  | 61 => ⟨S2x8257536, .i32⟩
  | 62 => ⟨S2x8257536, .i32⟩
  | 63 => ⟨S_, .i32⟩
  | 64 => ⟨S2x8257536, .i32⟩
  | 65 => ⟨S2x8257536, .i32⟩
  | 66 => ⟨S2, .i32⟩
  | 67 => ⟨S_, .i32⟩
  | 68 => ⟨S2, .i32⟩
  | 69 => ⟨S2, .i32⟩
  | 70 => ⟨S2x1, .i32⟩
  | 71 => ⟨S_, .i32⟩
  | 72 => ⟨S2x8257536, .i32⟩
  | 73 => ⟨S2x8257536, .i32⟩
  | 74 => ⟨S2x8257536, .i32⟩
  | 75 => ⟨S2x8257536, .i32⟩
  | 76 => ⟨S2x8257536, .i32⟩
  | 77 => ⟨S16515072, .i32⟩
  | 78 => ⟨S_, .f32⟩
  | 79 => ⟨S16515072, .f32⟩
  | 80 => ⟨S_, .f32⟩
  | 81 => ⟨S8192, .f32⟩
  | 82 => ⟨S16515072x1, .i32⟩
  | 83 => ⟨S8192, .f32⟩
  | 84 => ⟨S2x64x64, .f32⟩
  | 85 => ⟨S_, .f32⟩
  | 86 => ⟨S2, .f32⟩
  | 87 => ⟨S2x1x1, .f32⟩
  | 88 => ⟨S_, .f32⟩
  | 89 => ⟨S2x1x1, .f32⟩
  | 90 => ⟨S2x1x1, .f32⟩
  | 91 => ⟨S2x64x64, .f32⟩
  | 92 => ⟨S2x64x64, .f32⟩
  | 93 => ⟨S_, .f32⟩
  | 94 => ⟨S2x64, .f32⟩
  | 95 => ⟨S_, .f32⟩
  | 96 => ⟨S2x64, .f32⟩
  | 97 => ⟨S_, .f32⟩
  | 98 => ⟨S2x64, .f32⟩
  | 99 => ⟨S2x64, .f32⟩
  | 100 => ⟨S2x64, .f32⟩
  | 101 => ⟨S2x64, .f32⟩
  | 102 => ⟨S_, .f32⟩
  | 103 => ⟨S2, .f32⟩
  | 104 => ⟨S2, .f32⟩
  | 105 => ⟨S_, .f32⟩
  | 106 => ⟨S2x64, .f32⟩
  | 107 => ⟨S2x64, .f32⟩
  | 108 => ⟨S2x64, .f32⟩
  | 109 => ⟨S2x64, .f32⟩
  | 110 => ⟨S_, .f32⟩
  | 111 => ⟨S2, .f32⟩
  | 112 => ⟨S2, .f32⟩
  | 113 => ⟨S_, .f32⟩
  | 114 => ⟨S2x64x64, .f32⟩
  | 115 => ⟨S2x64x64, .f32⟩
  | 116 => ⟨S2x64x64, .f32⟩
  | 117 => ⟨S2x64x64, .f32⟩
  | 118 => ⟨S_, .f32⟩
  | 119 => ⟨S2, .f32⟩
  | 120 => ⟨S2, .f32⟩
  | 121 => ⟨S2, .f32⟩
  | 122 => ⟨S2, .f32⟩
  | 123 => ⟨S_, .f32⟩
  | 124 => ⟨S2, .f32⟩
  | 125 => ⟨S2, .f32⟩
  | 126 => ⟨S2, .f32⟩
  | 127 => ⟨S_, .f32⟩
  | _ => ⟨S2x12, .f32⟩

abbrev hbmTy0_1 (i : Nat) : BufTy := match i % 128 with
  | 0 => ⟨S2, .f32⟩
  | 1 => ⟨S2, .f32⟩
  | 2 => ⟨S2, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | _ => ⟨S2x12, .f32⟩

abbrev hbmTy (i : Nat) : BufTy := match i / 128 with
  | 0 => hbmTy0_0 i
  | 1 => hbmTy0_1 i
  | _ => ⟨S2x12, .f32⟩

abbrev bufTy : (tb : Table) → Fin (tcTables nBuf tb) → BufTy
  | .hbm, ⟨i, _⟩ => hbmTy i
  | _, _ => ⟨S2x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_c_5 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_10 : Ref sig .tc := ⟨.hbm, 58, rfl⟩
abbrev main_c_11 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v37 : Ref sig .tc := ⟨.hbm, 65, rfl⟩
abbrev main_v38 : Ref sig .tc := ⟨.hbm, 66, rfl⟩
abbrev main_c_12 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_13 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_14 : Ref sig .tc := ⟨.hbm, 78, rfl⟩
abbrev main_v48 : Ref sig .tc := ⟨.hbm, 79, rfl⟩
abbrev main_cst_15 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_16 : Ref sig .tc := ⟨.hbm, 85, rfl⟩
abbrev main_v53 : Ref sig .tc := ⟨.hbm, 86, rfl⟩
abbrev main_v54 : Ref sig .tc := ⟨.hbm, 87, rfl⟩
abbrev main_cst_17 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_18 : Ref sig .tc := ⟨.hbm, 93, rfl⟩
abbrev main_v59 : Ref sig .tc := ⟨.hbm, 94, rfl⟩
abbrev main_cst_19 : Ref sig .tc := ⟨.hbm, 95, rfl⟩
abbrev main_v60 : Ref sig .tc := ⟨.hbm, 96, rfl⟩
abbrev main_cst_20 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_21 : Ref sig .tc := ⟨.hbm, 102, rfl⟩
abbrev main_v65 : Ref sig .tc := ⟨.hbm, 103, rfl⟩
abbrev main_v66 : Ref sig .tc := ⟨.hbm, 104, rfl⟩
abbrev main_cst_22 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_23 : Ref sig .tc := ⟨.hbm, 110, rfl⟩
abbrev main_v71 : Ref sig .tc := ⟨.hbm, 111, rfl⟩
abbrev main_v72 : Ref sig .tc := ⟨.hbm, 112, rfl⟩
abbrev main_cst_24 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_25 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_26 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_27 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_28 : Ref sig .tc := ⟨.hbm, 131, rfl⟩
abbrev main_v87 : Ref sig .tc := ⟨.hbm, 132, rfl⟩
abbrev main_cst_29 : Ref sig .tc := ⟨.hbm, 133, rfl⟩
abbrev main_v88 : Ref sig .tc := ⟨.hbm, 134, rfl⟩
abbrev main_v89 : Ref sig .tc := ⟨.hbm, 135, rfl⟩
abbrev main_cst_30 : Ref sig .tc := ⟨.hbm, 136, rfl⟩
abbrev main_v90 : Ref sig .tc := ⟨.hbm, 137, rfl⟩
abbrev main_cst_31 : Ref sig .tc := ⟨.hbm, 138, rfl⟩
abbrev main_v91 : Ref sig .tc := ⟨.hbm, 139, rfl⟩
abbrev main_v92 : Ref sig .tc := ⟨.hbm, 140, rfl⟩

abbrev nD : Nat := 1
abbrev τ : Topo := Topo.v7x

variable {F : FTy → Type} [FloatOps F]
-- ==== Proof.Ideal.Hist.lean ====
module

public import proofs.«01_k».proof.Proof.Gen.KernelIdeal.Frame
public import proofs.«01_k».proof.Proof.Gen.KernelIdeal.Loops
public import Mathlib.Tactic.IntervalCases

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A row of the 32 × 192 table of bin numbers is inside it. -/
theorem row_slices (j : Fin 32) : S32x192.Slices ![j.val, 0] S1x192 :=
  ⟨rfl, fun a => by fin_cases a <;> simp <;> omega⟩

/-- The bin numbers `0 … 63` down the rows of a 64 × 192 table. -/
def binRows : IVec S64x192 8 := trunci 8 (iota .tc S64x192 32 [0] iota_S64x192_d0_w32) natLt_8_32

/-- One row of bin numbers, one-hot: entry `(a, l)` is one when voxel `l` of row `j` falls in bin `a`. -/
def hotRow (q : IVec S32x192 8) (j : Fin 32) : FVec F S64x192 .fp8e4m3 :=
  select (cmpi .eq binRows (broadcastTo S64x192 (extractStridedSlice S1x192 ![j.val, 0] q (row_slices j)) broadcasts_S1x192_S64x192))
    (broadcast S64x192 (Scalar.ofBits .fp8e4m3 0x38#8)) (broadcast S64x192 (Scalar.ofBits .fp8e4m3 0x00#8))

/-- Row `j` counted into a 64 × 64 table. -/
def rowAdd (fi wi : IVec S32x192 8) (j : Fin 32) (a : FVec F S64x64 .f32) : FVec F S64x64 .f32 :=
  addf (matmul dot_S64x192_S64x192_S64x64_1_1_0_0_n_n none (hotRow fi j) (hotRow wi j) (constant S64x64 .f32 0x00000000#32)) a

/-- The eight rows `r, r + 4, …, r + 28` counted into a table. -/
def rows8 (fi wi : IVec S32x192 8) (r : Fin 4) (a : FVec F S64x64 .f32) : FVec F S64x64 .f32 :=
  rowAdd fi wi ⟨r.val + 28, by omega⟩ (rowAdd fi wi ⟨r.val + 24, by omega⟩ (rowAdd fi wi ⟨r.val + 20, by omega⟩
    (rowAdd fi wi ⟨r.val + 16, by omega⟩ (rowAdd fi wi ⟨r.val + 12, by omega⟩ (rowAdd fi wi ⟨r.val + 8, by omega⟩
      (rowAdd fi wi ⟨r.val + 4, by omega⟩ (rowAdd fi wi ⟨r.val, by omega⟩ a)))))))

/-- The bin numbers of 32 rows of voxels, for the least value `lo` and the scale `inv`. -/
def binsOf (lo inv : F .f32) (x : Vec F S1x1x1x32x192 .f32) : IVec S32x192 8 :=
  fptosi 8 (minimumf (broadcast S32x192 (Scalar.ofBits .f32 0x427C0000#32)) (maximumf (broadcast S32x192 (Scalar.ofBits .f32 0x00000000#32))
    (floor (mulf (mulf (subf (shapeCast S32x192 x shapeCasts_S1x1x1x32x192_S32x192) (broadcast S32x192 lo)) (broadcast S32x192 inv))
      (broadcast S32x192 (Scalar.ofBits .f32 0x427C0000#32))))))

/-- One over the range of the values, the small constant added. -/
def invRange (lo hi : F .f32) : F .f32 :=
  Scalar.divf (Scalar.ofBits .f32 0x3F800000#32) (Scalar.addf (Scalar.subf hi lo) (Scalar.ofBits .f32 0x2EDBE6FF#32))

/-- What one trip writes into the four tables `T`: table `r` with its eight rows counted in. -/
def tripList (fi wi : IVec S32x192 8) (T : Vec F S4x64x64 .f32) : List (View.Piece (Elt F) S4x64x64 .f32) :=
  [⟨Rect.unit (s := S4x64x64) ![3, 0, 0] S1x64x64.size inb_S4x64x64_S1x64x64_3_0_0, shapeCast S1x64x64 (rows8 fi wi 3 (shapeCast S64x64
      (View.ld (S := S4x64x64) T (Rect.unit (s := S4x64x64) ![3, 0, 0] S1x64x64.size inb_S4x64x64_S1x64x64_3_0_0)) shapeCasts_S1x64x64_S64x64)) shapeCasts_S64x64_S1x64x64⟩,
   ⟨Rect.unit (s := S4x64x64) ![2, 0, 0] S1x64x64.size inb_S4x64x64_S1x64x64_2_0_0, shapeCast S1x64x64 (rows8 fi wi 2 (shapeCast S64x64
      (View.ld (S := S4x64x64) T (Rect.unit (s := S4x64x64) ![2, 0, 0] S1x64x64.size inb_S4x64x64_S1x64x64_2_0_0)) shapeCasts_S1x64x64_S64x64)) shapeCasts_S64x64_S1x64x64⟩,
   ⟨Rect.unit (s := S4x64x64) ![1, 0, 0] S1x64x64.size inb_S4x64x64_S1x64x64_1_0_0, shapeCast S1x64x64 (rows8 fi wi 1 (shapeCast S64x64
      (View.ld (S := S4x64x64) T (Rect.unit (s := S4x64x64) ![1, 0, 0] S1x64x64.size inb_S4x64x64_S1x64x64_1_0_0)) shapeCasts_S1x64x64_S64x64)) shapeCasts_S64x64_S1x64x64⟩,
   ⟨Rect.unit (s := S4x64x64) ![0, 0, 0] S1x64x64.size inb_S4x64x64_S1x64x64_0_0_0, shapeCast S1x64x64 (rows8 fi wi 0 (shapeCast S64x64
      (View.ld (S := S4x64x64) T (Rect.unit (s := S4x64x64) ![0, 0, 0] S1x64x64.size inb_S4x64x64_S1x64x64_0_0_0)) shapeCasts_S1x64x64_S64x64)) shapeCasts_S64x64_S1x64x64⟩]

/-- The pieces of a trip fill the four tables. -/
theorem tripList_cover (fi wi : IVec S32x192 8) (T : Vec F S4x64x64 .f32) (y : S4x64x64.Idx) : ∃ p ∈ tripList fi wi T, y ∈ p.1.set :=
  View.cover_of_tiledL (tripList fi wi T) S1x64x64.size (by sl_kernel_rfl) y

/-- The four tables after one trip. -/
def hist (fi wi : IVec S32x192 8) (T : Vec F S4x64x64 .f32) : Vec F S4x64x64 .f32 := View.canon (tripList fi wi T)

/-- Rows `32 t … 32 t + 31` of plane `d` of a block. -/
def rows (x : Vec F S1x1x6x224x192 .f32) (d : Fin 6) (t : ℕ) : Vec F S1x1x1x32x192 .f32 := fun j =>
  x (fun a => match a with
    | ⟨0, _⟩ => (0 : Fin 1)
    | ⟨1, _⟩ => (0 : Fin 1)
    | ⟨2, _⟩ => d
    | ⟨3, _⟩ => (⟨(32 * t + (j 3).val) % 224, Nat.mod_lt _ (by decide)⟩ : Fin 224)
    | ⟨4, _⟩ => j 4)

/-- The load of 32 rows at the printed offsets. -/
theorem ld_rows (x : Vec F S1x1x6x224x192 .f32) (d : Fin 6) (t : ℕ) (ht : t < 7) {off : Fin 5 → ℕ} (inb : ∀ a, off a + S1x1x1x32x192.size a ≤ S1x1x6x224x192.size a)
    (h : off = ![0, 0, d.val, 32 * t, 0]) : View.ld (S := S1x1x6x224x192) x (Rect.unit (s := S1x1x6x224x192) off S1x1x1x32x192.size inb) = rows x d t := by
  subst h
  funext j
  unfold rows
  refine congrArg x (funext fun a => Fin.ext ?_)
  have h3 : (j 3).val < 32 := (j 3).isLt
  match a with
  | ⟨0, _⟩ => exact (by have := (j 0).isLt; change (j 0).val < 1 at this; show 0 + 1 * (j 0).val = 0; omega)
  | ⟨1, _⟩ => exact (by have := (j 1).isLt; change (j 1).val < 1 at this; show 0 + 1 * (j 1).val = 0; omega)
  | ⟨2, _⟩ => exact (by have := (j 2).isLt; change (j 2).val < 1 at this; show d.val + 1 * (j 2).val = d.val; omega)
  | ⟨3, _⟩ => exact (by show 32 * t + 1 * (j 3).val = (32 * t + (j 3).val) % 224; omega)
  | ⟨4, _⟩ => exact (by show 0 + 1 * (j 4).val = (j 4).val; omega)

/-- The row a trip starts at, as the loop computes it. -/
theorem row_off : ∀ n : ℕ, n < 7 → (Scalar.indexCast (Scalar.muli (Scf.iv 0#32 1#32 n) 32#32)).toNat = 32 * n := by
  intro n hn
  interval_cases n <;> rfl

/-- The bin numbers of both volumes for 32 rows. -/
def rowBins (lo lo' inv inv' : F .f32) (x y : Vec F S1x1x6x224x192 .f32) (d : Fin 6) (t : ℕ) : IVec S32x192 8 × IVec S32x192 8 :=
  (binsOf lo inv (rows x d t), binsOf lo' inv' (rows y d t))

/-- The tables after `n` trips over the bin numbers `q`. -/
def trips (q : ℕ → IVec S32x192 8 × IVec S32x192 8) (T : Vec F S4x64x64 .f32) : ℕ → Vec F S4x64x64 .f32
  | 0 => T
  | n + 1 => hist (q n).1 (q n).2 (trips q T n)

/-- What a loop leaves in the tables, from what each of its trips writes. -/
theorem read_trips (v : View sig .tc .vmem S4x64x64 .f32) (G : v.ty.Contents (Elt F)) (pb : ℕ → List (View.Piece (Elt F) S4x64x64 .f32))
    (q : ℕ → IVec S32x192 8 × IVec S32x192 8) (h0 : pb 0 = [])
    (hs : ∀ k, k < 7 → pb (k + 1) = tripList (q k).1 (q k).2 (v.read (Elt F) (v.writes (Elt F) G (pb k))) ++ pb k) :
    ∀ n, n ≤ 7 → v.read (Elt F) (v.writes (Elt F) G (pb n)) = trips q (v.read (Elt F) G) n
  | 0, _ => by rw [h0]; rfl
  | n + 1, hn => by
    rw [hs n (by omega), View.writes_append, View.read_writes_eq_canon _ _ _ (tripList_cover _ _ _), read_trips v G pb q h0 hs n (by omega)]
    rfl

/-- The pieces of a trip of loop 1. -/
theorem tripL1_eq (𝒱 : Variants) (c : Dev nD) (bd : Option 𝒱.V) (i : grid0.Coords) (arg3 : Memref sig .tc .vmem S1x1x128 .f32) (harg3 : arg3.IsWhole) (arg4 : Memref sig .tc .vmem S1x1x128 .f32) (harg4 : arg4.IsWhole) (arg5 : Memref sig .tc .vmem S1x1x6x224x192 .f32) (harg5 : arg5.IsWhole) (arg6 : Memref sig .tc .vmem S1x1x6x224x192 .f32) (harg6 : arg6.IsWhole) (arg7 : Memref sig .tc .vmem S1x1x128 .f32) (harg7 : arg7.IsWhole) (arg8 : Memref sig .tc .smem S4 .f32) (harg8 : arg8.IsWhole) (arg9 : Memref sig .tc .vmem S4x64x64 .f32) (harg9 : arg9.IsWhole) (arg2 : BitVec 32) (k0_h3 : k0_cond3 i = 1#1) (v14 : Elt F .f32) (v15 : Elt F .f32) (v16 : Elt F .f32) (v20 : Elt F .f32) (X_arg5 : BufTy.Contents (Elt F) arg5.view.ty) (X_arg6 : BufTy.Contents (Elt F) arg6.view.ty) (k : Fin k0_t1_loop.trips) (f : BufTy.Contents (Elt F) arg9.view.ty) :
    tripL_k0_t1 (F := F) 𝒱 c bd i arg3 harg3 arg4 harg4 arg5 harg5 arg6 harg6 arg7 harg7 arg8 harg8 arg9 harg9 arg2 k0_h3 v14 v15 v16 v20 X_arg5 X_arg6 k f
      = tripList (binsOf v14 (invRange v14 v16) (View.ld (S := S1x1x6x224x192) (arg5.view.read (Elt F) X_arg5) (Rect.unit (s := S1x1x6x224x192) (k0_off1 k) S1x1x1x32x192.size (k0_off1_inb i k k0_h3))))
          (binsOf v15 (invRange v15 v20) (View.ld (S := S1x1x6x224x192) (arg6.view.read (Elt F) X_arg6) (Rect.unit (s := S1x1x6x224x192) (k0_off1 k) S1x1x1x32x192.size (k0_off1_inb i k k0_h3)))) (arg9.view.read (Elt F) f) := by
  unfold tripL_k0_t1 trip_k0_t1
  rfl

/-- What loop 1 leaves in the tables. -/
theorem read_pb1 (𝒱 : Variants) (c : Dev nD) (bd : Option 𝒱.V) (i : grid0.Coords) (arg3 : Memref sig .tc .vmem S1x1x128 .f32) (harg3 : arg3.IsWhole) (arg4 : Memref sig .tc .vmem S1x1x128 .f32) (harg4 : arg4.IsWhole) (arg5 : Memref sig .tc .vmem S1x1x6x224x192 .f32) (harg5 : arg5.IsWhole) (arg6 : Memref sig .tc .vmem S1x1x6x224x192 .f32) (harg6 : arg6.IsWhole) (arg7 : Memref sig .tc .vmem S1x1x128 .f32) (harg7 : arg7.IsWhole) (arg8 : Memref sig .tc .smem S4 .f32) (harg8 : arg8.IsWhole) (arg9 : Memref sig .tc .vmem S4x64x64 .f32) (harg9 : arg9.IsWhole) (arg2 : BitVec 32) (k0_h3 : k0_cond3 i = 1#1) (v14 : Elt F .f32) (v15 : Elt F .f32) (v16 : Elt F .f32) (v20 : Elt F .f32) (X_arg5 : BufTy.Contents (Elt F) arg5.view.ty) (X_arg6 : BufTy.Contents (Elt F) arg6.view.ty) (G : BufTy.Contents (Elt F) arg9.view.ty) :
    arg9.view.read (Elt F) (arg9.view.writes (Elt F) G (pb_k0_t1 (F := F) 𝒱 c bd i arg3 harg3 arg4 harg4 arg5 harg5 arg6 harg6 arg7 harg7 arg8 harg8 arg9 harg9 arg2 k0_h3 v14 v15 v16 v20 X_arg5 X_arg6 G k0_t1_loop.trips))
      = trips (rowBins v14 v15 (invRange v14 v16) (invRange v15 v20) (arg5.view.read (Elt F) X_arg5) (arg6.view.read (Elt F) X_arg6) 0) (arg9.view.read (Elt F) G) 7 := by
  refine read_trips arg9.view G (pb_k0_t1 (F := F) 𝒱 c bd i arg3 harg3 arg4 harg4 arg5 harg5 arg6 harg6 arg7 harg7 arg8 harg8 arg9 harg9 arg2 k0_h3 v14 v15 v16 v20 X_arg5 X_arg6 G) _ rfl (fun k hk => ?_) 7 (Nat.le_refl 7)
  have ho : k0_off1 ⟨k, hk⟩ = ![0, 0, 0, 32 * k, 0] := congrArg (fun r : ℕ => ![0, 0, 0, r, 0]) (row_off k hk)
  refine (pb_k0_t1_succ (F := F) 𝒱 c bd i arg3 harg3 arg4 harg4 arg5 harg5 arg6 harg6 arg7 harg7 arg8 harg8 arg9 harg9 arg2 k0_h3 v14 v15 v16 v20 X_arg5 X_arg6 G ⟨k, hk⟩).trans ?_
  rw [tripL1_eq, ld_rows _ 0 k hk _ ho, ld_rows _ 0 k hk _ ho]
  rfl

/-- The pieces of a trip of loop 2. -/
theorem tripL2_eq (𝒱 : Variants) (c : Dev nD) (bd : Option 𝒱.V) (i : grid0.Coords) (arg3 : Memref sig .tc .vmem S1x1x128 .f32) (harg3 : arg3.IsWhole) (arg4 : Memref sig .tc .vmem S1x1x128 .f32) (harg4 : arg4.IsWhole) (arg5 : Memref sig .tc .vmem S1x1x6x224x192 .f32) (harg5 : arg5.IsWhole) (arg6 : Memref sig .tc .vmem S1x1x6x224x192 .f32) (harg6 : arg6.IsWhole) (arg7 : Memref sig .tc .vmem S1x1x128 .f32) (harg7 : arg7.IsWhole) (arg8 : Memref sig .tc .smem S4 .f32) (harg8 : arg8.IsWhole) (arg9 : Memref sig .tc .vmem S4x64x64 .f32) (harg9 : arg9.IsWhole) (arg2 : BitVec 32) (k0_h3 : k0_cond3 i = 1#1) (v14 : Elt F .f32) (v15 : Elt F .f32) (v16 : Elt F .f32) (v20 : Elt F .f32) (X_arg5 : BufTy.Contents (Elt F) arg5.view.ty) (X_arg6 : BufTy.Contents (Elt F) arg6.view.ty) (k : Fin k0_t2_loop.trips) (f : BufTy.Contents (Elt F) arg9.view.ty) :
    tripL_k0_t2 (F := F) 𝒱 c bd i arg3 harg3 arg4 harg4 arg5 harg5 arg6 harg6 arg7 harg7 arg8 harg8 arg9 harg9 arg2 k0_h3 v14 v15 v16 v20 X_arg5 X_arg6 k f
      = tripList (binsOf v14 (invRange v14 v16) (View.ld (S := S1x1x6x224x192) (arg5.view.read (Elt F) X_arg5) (Rect.unit (s := S1x1x6x224x192) (k0_off2 k) S1x1x1x32x192.size (k0_off2_inb i k k0_h3))))
          (binsOf v15 (invRange v15 v20) (View.ld (S := S1x1x6x224x192) (arg6.view.read (Elt F) X_arg6) (Rect.unit (s := S1x1x6x224x192) (k0_off2 k) S1x1x1x32x192.size (k0_off2_inb i k k0_h3)))) (arg9.view.read (Elt F) f) := by
  unfold tripL_k0_t2 trip_k0_t2
  rfl

/-- What loop 2 leaves in the tables. -/
theorem read_pb2 (𝒱 : Variants) (c : Dev nD) (bd : Option 𝒱.V) (i : grid0.Coords) (arg3 : Memref sig .tc .vmem S1x1x128 .f32) (harg3 : arg3.IsWhole) (arg4 : Memref sig .tc .vmem S1x1x128 .f32) (harg4 : arg4.IsWhole) (arg5 : Memref sig .tc .vmem S1x1x6x224x192 .f32) (harg5 : arg5.IsWhole) (arg6 : Memref sig .tc .vmem S1x1x6x224x192 .f32) (harg6 : arg6.IsWhole) (arg7 : Memref sig .tc .vmem S1x1x128 .f32) (harg7 : arg7.IsWhole) (arg8 : Memref sig .tc .smem S4 .f32) (harg8 : arg8.IsWhole) (arg9 : Memref sig .tc .vmem S4x64x64 .f32) (harg9 : arg9.IsWhole) (arg2 : BitVec 32) (k0_h3 : k0_cond3 i = 1#1) (v14 : Elt F .f32) (v15 : Elt F .f32) (v16 : Elt F .f32) (v20 : Elt F .f32) (X_arg5 : BufTy.Contents (Elt F) arg5.view.ty) (X_arg6 : BufTy.Contents (Elt F) arg6.view.ty) (G : BufTy.Contents (Elt F) arg9.view.ty) :
    arg9.view.read (Elt F) (arg9.view.writes (Elt F) G (pb_k0_t2 (F := F) 𝒱 c bd i arg3 harg3 arg4 harg4 arg5 harg5 arg6 harg6 arg7 harg7 arg8 harg8 arg9 harg9 arg2 k0_h3 v14 v15 v16 v20 X_arg5 X_arg6 G k0_t2_loop.trips))
      = trips (rowBins v14 v15 (invRange v14 v16) (invRange v15 v20) (arg5.view.read (Elt F) X_arg5) (arg6.view.read (Elt F) X_arg6) 1) (arg9.view.read (Elt F) G) 7 := by
  refine read_trips arg9.view G (pb_k0_t2 (F := F) 𝒱 c bd i arg3 harg3 arg4 harg4 arg5 harg5 arg6 harg6 arg7 harg7 arg8 harg8 arg9 harg9 arg2 k0_h3 v14 v15 v16 v20 X_arg5 X_arg6 G) _ rfl (fun k hk => ?_) 7 (Nat.le_refl 7)
  have ho : k0_off2 ⟨k, hk⟩ = ![0, 0, 1, 32 * k, 0] := congrArg (fun r : ℕ => ![0, 0, 1, r, 0]) (row_off k hk)
  refine (pb_k0_t2_succ (F := F) 𝒱 c bd i arg3 harg3 arg4 harg4 arg5 harg5 arg6 harg6 arg7 harg7 arg8 harg8 arg9 harg9 arg2 k0_h3 v14 v15 v16 v20 X_arg5 X_arg6 G ⟨k, hk⟩).trans ?_
  rw [tripL2_eq, ld_rows _ 1 k hk _ ho, ld_rows _ 1 k hk _ ho]
  rfl

/-- The pieces of a trip of loop 3. -/
theorem tripL3_eq (𝒱 : Variants) (c : Dev nD) (bd : Option 𝒱.V) (i : grid0.Coords) (arg3 : Memref sig .tc .vmem S1x1x128 .f32) (harg3 : arg3.IsWhole) (arg4 : Memref sig .tc .vmem S1x1x128 .f32) (harg4 : arg4.IsWhole) (arg5 : Memref sig .tc .vmem S1x1x6x224x192 .f32) (harg5 : arg5.IsWhole) (arg6 : Memref sig .tc .vmem S1x1x6x224x192 .f32) (harg6 : arg6.IsWhole) (arg7 : Memref sig .tc .vmem S1x1x128 .f32) (harg7 : arg7.IsWhole) (arg8 : Memref sig .tc .smem S4 .f32) (harg8 : arg8.IsWhole) (arg9 : Memref sig .tc .vmem S4x64x64 .f32) (harg9 : arg9.IsWhole) (arg2 : BitVec 32) (k0_h3 : k0_cond3 i = 1#1) (v14 : Elt F .f32) (v15 : Elt F .f32) (v16 : Elt F .f32) (v20 : Elt F .f32) (X_arg5 : BufTy.Contents (Elt F) arg5.view.ty) (X_arg6 : BufTy.Contents (Elt F) arg6.view.ty) (k : Fin k0_t3_loop.trips) (f : BufTy.Contents (Elt F) arg9.view.ty) :
    tripL_k0_t3 (F := F) 𝒱 c bd i arg3 harg3 arg4 harg4 arg5 harg5 arg6 harg6 arg7 harg7 arg8 harg8 arg9 harg9 arg2 k0_h3 v14 v15 v16 v20 X_arg5 X_arg6 k f
      = tripList (binsOf v14 (invRange v14 v16) (View.ld (S := S1x1x6x224x192) (arg5.view.read (Elt F) X_arg5) (Rect.unit (s := S1x1x6x224x192) (k0_off3 k) S1x1x1x32x192.size (k0_off3_inb i k k0_h3))))
          (binsOf v15 (invRange v15 v20) (View.ld (S := S1x1x6x224x192) (arg6.view.read (Elt F) X_arg6) (Rect.unit (s := S1x1x6x224x192) (k0_off3 k) S1x1x1x32x192.size (k0_off3_inb i k k0_h3)))) (arg9.view.read (Elt F) f) := by
  unfold tripL_k0_t3 trip_k0_t3
  rfl

/-- What loop 3 leaves in the tables. -/
theorem read_pb3 (𝒱 : Variants) (c : Dev nD) (bd : Option 𝒱.V) (i : grid0.Coords) (arg3 : Memref sig .tc .vmem S1x1x128 .f32) (harg3 : arg3.IsWhole) (arg4 : Memref sig .tc .vmem S1x1x128 .f32) (harg4 : arg4.IsWhole) (arg5 : Memref sig .tc .vmem S1x1x6x224x192 .f32) (harg5 : arg5.IsWhole) (arg6 : Memref sig .tc .vmem S1x1x6x224x192 .f32) (harg6 : arg6.IsWhole) (arg7 : Memref sig .tc .vmem S1x1x128 .f32) (harg7 : arg7.IsWhole) (arg8 : Memref sig .tc .smem S4 .f32) (harg8 : arg8.IsWhole) (arg9 : Memref sig .tc .vmem S4x64x64 .f32) (harg9 : arg9.IsWhole) (arg2 : BitVec 32) (k0_h3 : k0_cond3 i = 1#1) (v14 : Elt F .f32) (v15 : Elt F .f32) (v16 : Elt F .f32) (v20 : Elt F .f32) (X_arg5 : BufTy.Contents (Elt F) arg5.view.ty) (X_arg6 : BufTy.Contents (Elt F) arg6.view.ty) (G : BufTy.Contents (Elt F) arg9.view.ty) :
    arg9.view.read (Elt F) (arg9.view.writes (Elt F) G (pb_k0_t3 (F := F) 𝒱 c bd i arg3 harg3 arg4 harg4 arg5 harg5 arg6 harg6 arg7 harg7 arg8 harg8 arg9 harg9 arg2 k0_h3 v14 v15 v16 v20 X_arg5 X_arg6 G k0_t3_loop.trips))
      = trips (rowBins v14 v15 (invRange v14 v16) (invRange v15 v20) (arg5.view.read (Elt F) X_arg5) (arg6.view.read (Elt F) X_arg6) 2) (arg9.view.read (Elt F) G) 7 := by
  refine read_trips arg9.view G (pb_k0_t3 (F := F) 𝒱 c bd i arg3 harg3 arg4 harg4 arg5 harg5 arg6 harg6 arg7 harg7 arg8 harg8 arg9 harg9 arg2 k0_h3 v14 v15 v16 v20 X_arg5 X_arg6 G) _ rfl (fun k hk => ?_) 7 (Nat.le_refl 7)
  have ho : k0_off3 ⟨k, hk⟩ = ![0, 0, 2, 32 * k, 0] := congrArg (fun r : ℕ => ![0, 0, 2, r, 0]) (row_off k hk)
  refine (pb_k0_t3_succ (F := F) 𝒱 c bd i arg3 harg3 arg4 harg4 arg5 harg5 arg6 harg6 arg7 harg7 arg8 harg8 arg9 harg9 arg2 k0_h3 v14 v15 v16 v20 X_arg5 X_arg6 G ⟨k, hk⟩).trans ?_
  rw [tripL3_eq, ld_rows _ 2 k hk _ ho, ld_rows _ 2 k hk _ ho]
  rfl

/-- The pieces of a trip of loop 4. -/
theorem tripL4_eq (𝒱 : Variants) (c : Dev nD) (bd : Option 𝒱.V) (i : grid0.Coords) (arg3 : Memref sig .tc .vmem S1x1x128 .f32) (harg3 : arg3.IsWhole) (arg4 : Memref sig .tc .vmem S1x1x128 .f32) (harg4 : arg4.IsWhole) (arg5 : Memref sig .tc .vmem S1x1x6x224x192 .f32) (harg5 : arg5.IsWhole) (arg6 : Memref sig .tc .vmem S1x1x6x224x192 .f32) (harg6 : arg6.IsWhole) (arg7 : Memref sig .tc .vmem S1x1x128 .f32) (harg7 : arg7.IsWhole) (arg8 : Memref sig .tc .smem S4 .f32) (harg8 : arg8.IsWhole) (arg9 : Memref sig .tc .vmem S4x64x64 .f32) (harg9 : arg9.IsWhole) (arg2 : BitVec 32) (k0_h3 : k0_cond3 i = 1#1) (v14 : Elt F .f32) (v15 : Elt F .f32) (v16 : Elt F .f32) (v20 : Elt F .f32) (X_arg5 : BufTy.Contents (Elt F) arg5.view.ty) (X_arg6 : BufTy.Contents (Elt F) arg6.view.ty) (k : Fin k0_t4_loop.trips) (f : BufTy.Contents (Elt F) arg9.view.ty) :
    tripL_k0_t4 (F := F) 𝒱 c bd i arg3 harg3 arg4 harg4 arg5 harg5 arg6 harg6 arg7 harg7 arg8 harg8 arg9 harg9 arg2 k0_h3 v14 v15 v16 v20 X_arg5 X_arg6 k f
      = tripList (binsOf v14 (invRange v14 v16) (View.ld (S := S1x1x6x224x192) (arg5.view.read (Elt F) X_arg5) (Rect.unit (s := S1x1x6x224x192) (k0_off4 k) S1x1x1x32x192.size (k0_off4_inb i k k0_h3))))
          (binsOf v15 (invRange v15 v20) (View.ld (S := S1x1x6x224x192) (arg6.view.read (Elt F) X_arg6) (Rect.unit (s := S1x1x6x224x192) (k0_off4 k) S1x1x1x32x192.size (k0_off4_inb i k k0_h3)))) (arg9.view.read (Elt F) f) := by
  unfold tripL_k0_t4 trip_k0_t4
  rfl

/-- What loop 4 leaves in the tables. -/
theorem read_pb4 (𝒱 : Variants) (c : Dev nD) (bd : Option 𝒱.V) (i : grid0.Coords) (arg3 : Memref sig .tc .vmem S1x1x128 .f32) (harg3 : arg3.IsWhole) (arg4 : Memref sig .tc .vmem S1x1x128 .f32) (harg4 : arg4.IsWhole) (arg5 : Memref sig .tc .vmem S1x1x6x224x192 .f32) (harg5 : arg5.IsWhole) (arg6 : Memref sig .tc .vmem S1x1x6x224x192 .f32) (harg6 : arg6.IsWhole) (arg7 : Memref sig .tc .vmem S1x1x128 .f32) (harg7 : arg7.IsWhole) (arg8 : Memref sig .tc .smem S4 .f32) (harg8 : arg8.IsWhole) (arg9 : Memref sig .tc .vmem S4x64x64 .f32) (harg9 : arg9.IsWhole) (arg2 : BitVec 32) (k0_h3 : k0_cond3 i = 1#1) (v14 : Elt F .f32) (v15 : Elt F .f32) (v16 : Elt F .f32) (v20 : Elt F .f32) (X_arg5 : BufTy.Contents (Elt F) arg5.view.ty) (X_arg6 : BufTy.Contents (Elt F) arg6.view.ty) (G : BufTy.Contents (Elt F) arg9.view.ty) :
    arg9.view.read (Elt F) (arg9.view.writes (Elt F) G (pb_k0_t4 (F := F) 𝒱 c bd i arg3 harg3 arg4 harg4 arg5 harg5 arg6 harg6 arg7 harg7 arg8 harg8 arg9 harg9 arg2 k0_h3 v14 v15 v16 v20 X_arg5 X_arg6 G k0_t4_loop.trips))
      = trips (rowBins v14 v15 (invRange v14 v16) (invRange v15 v20) (arg5.view.read (Elt F) X_arg5) (arg6.view.read (Elt F) X_arg6) 3) (arg9.view.read (Elt F) G) 7 := by
  refine read_trips arg9.view G (pb_k0_t4 (F := F) 𝒱 c bd i arg3 harg3 arg4 harg4 arg5 harg5 arg6 harg6 arg7 harg7 arg8 harg8 arg9 harg9 arg2 k0_h3 v14 v15 v16 v20 X_arg5 X_arg6 G) _ rfl (fun k hk => ?_) 7 (Nat.le_refl 7)
  have ho : k0_off4 ⟨k, hk⟩ = ![0, 0, 3, 32 * k, 0] := congrArg (fun r : ℕ => ![0, 0, 3, r, 0]) (row_off k hk)
  refine (pb_k0_t4_succ (F := F) 𝒱 c bd i arg3 harg3 arg4 harg4 arg5 harg5 arg6 harg6 arg7 harg7 arg8 harg8 arg9 harg9 arg2 k0_h3 v14 v15 v16 v20 X_arg5 X_arg6 G ⟨k, hk⟩).trans ?_
  rw [tripL4_eq, ld_rows _ 3 k hk _ ho, ld_rows _ 3 k hk _ ho]
  rfl

/-- The pieces of a trip of loop 5. -/
theorem tripL5_eq (𝒱 : Variants) (c : Dev nD) (bd : Option 𝒱.V) (i : grid0.Coords) (arg3 : Memref sig .tc .vmem S1x1x128 .f32) (harg3 : arg3.IsWhole) (arg4 : Memref sig .tc .vmem S1x1x128 .f32) (harg4 : arg4.IsWhole) (arg5 : Memref sig .tc .vmem S1x1x6x224x192 .f32) (harg5 : arg5.IsWhole) (arg6 : Memref sig .tc .vmem S1x1x6x224x192 .f32) (harg6 : arg6.IsWhole) (arg7 : Memref sig .tc .vmem S1x1x128 .f32) (harg7 : arg7.IsWhole) (arg8 : Memref sig .tc .smem S4 .f32) (harg8 : arg8.IsWhole) (arg9 : Memref sig .tc .vmem S4x64x64 .f32) (harg9 : arg9.IsWhole) (arg2 : BitVec 32) (k0_h3 : k0_cond3 i = 1#1) (v14 : Elt F .f32) (v15 : Elt F .f32) (v16 : Elt F .f32) (v20 : Elt F .f32) (X_arg5 : BufTy.Contents (Elt F) arg5.view.ty) (X_arg6 : BufTy.Contents (Elt F) arg6.view.ty) (k : Fin k0_t5_loop.trips) (f : BufTy.Contents (Elt F) arg9.view.ty) :
    tripL_k0_t5 (F := F) 𝒱 c bd i arg3 harg3 arg4 harg4 arg5 harg5 arg6 harg6 arg7 harg7 arg8 harg8 arg9 harg9 arg2 k0_h3 v14 v15 v16 v20 X_arg5 X_arg6 k f
      = tripList (binsOf v14 (invRange v14 v16) (View.ld (S := S1x1x6x224x192) (arg5.view.read (Elt F) X_arg5) (Rect.unit (s := S1x1x6x224x192) (k0_off5 k) S1x1x1x32x192.size (k0_off5_inb i k k0_h3))))
          (binsOf v15 (invRange v15 v20) (View.ld (S := S1x1x6x224x192) (arg6.view.read (Elt F) X_arg6) (Rect.unit (s := S1x1x6x224x192) (k0_off5 k) S1x1x1x32x192.size (k0_off5_inb i k k0_h3)))) (arg9.view.read (Elt F) f) := by
  unfold tripL_k0_t5 trip_k0_t5
  rfl

/-- What loop 5 leaves in the tables. -/
theorem read_pb5 (𝒱 : Variants) (c : Dev nD) (bd : Option 𝒱.V) (i : grid0.Coords) (arg3 : Memref sig .tc .vmem S1x1x128 .f32) (harg3 : arg3.IsWhole) (arg4 : Memref sig .tc .vmem S1x1x128 .f32) (harg4 : arg4.IsWhole) (arg5 : Memref sig .tc .vmem S1x1x6x224x192 .f32) (harg5 : arg5.IsWhole) (arg6 : Memref sig .tc .vmem S1x1x6x224x192 .f32) (harg6 : arg6.IsWhole) (arg7 : Memref sig .tc .vmem S1x1x128 .f32) (harg7 : arg7.IsWhole) (arg8 : Memref sig .tc .smem S4 .f32) (harg8 : arg8.IsWhole) (arg9 : Memref sig .tc .vmem S4x64x64 .f32) (harg9 : arg9.IsWhole) (arg2 : BitVec 32) (k0_h3 : k0_cond3 i = 1#1) (v14 : Elt F .f32) (v15 : Elt F .f32) (v16 : Elt F .f32) (v20 : Elt F .f32) (X_arg5 : BufTy.Contents (Elt F) arg5.view.ty) (X_arg6 : BufTy.Contents (Elt F) arg6.view.ty) (G : BufTy.Contents (Elt F) arg9.view.ty) :
    arg9.view.read (Elt F) (arg9.view.writes (Elt F) G (pb_k0_t5 (F := F) 𝒱 c bd i arg3 harg3 arg4 harg4 arg5 harg5 arg6 harg6 arg7 harg7 arg8 harg8 arg9 harg9 arg2 k0_h3 v14 v15 v16 v20 X_arg5 X_arg6 G k0_t5_loop.trips))
      = trips (rowBins v14 v15 (invRange v14 v16) (invRange v15 v20) (arg5.view.read (Elt F) X_arg5) (arg6.view.read (Elt F) X_arg6) 4) (arg9.view.read (Elt F) G) 7 := by
  refine read_trips arg9.view G (pb_k0_t5 (F := F) 𝒱 c bd i arg3 harg3 arg4 harg4 arg5 harg5 arg6 harg6 arg7 harg7 arg8 harg8 arg9 harg9 arg2 k0_h3 v14 v15 v16 v20 X_arg5 X_arg6 G) _ rfl (fun k hk => ?_) 7 (Nat.le_refl 7)
  have ho : k0_off5 ⟨k, hk⟩ = ![0, 0, 4, 32 * k, 0] := congrArg (fun r : ℕ => ![0, 0, 4, r, 0]) (row_off k hk)
  refine (pb_k0_t5_succ (F := F) 𝒱 c bd i arg3 harg3 arg4 harg4 arg5 harg5 arg6 harg6 arg7 harg7 arg8 harg8 arg9 harg9 arg2 k0_h3 v14 v15 v16 v20 X_arg5 X_arg6 G ⟨k, hk⟩).trans ?_
  rw [tripL5_eq, ld_rows _ 4 k hk _ ho, ld_rows _ 4 k hk _ ho]
  rfl

/-- The pieces of a trip of loop 6. -/
theorem tripL6_eq (𝒱 : Variants) (c : Dev nD) (bd : Option 𝒱.V) (i : grid0.Coords) (arg3 : Memref sig .tc .vmem S1x1x128 .f32) (harg3 : arg3.IsWhole) (arg4 : Memref sig .tc .vmem S1x1x128 .f32) (harg4 : arg4.IsWhole) (arg5 : Memref sig .tc .vmem S1x1x6x224x192 .f32) (harg5 : arg5.IsWhole) (arg6 : Memref sig .tc .vmem S1x1x6x224x192 .f32) (harg6 : arg6.IsWhole) (arg7 : Memref sig .tc .vmem S1x1x128 .f32) (harg7 : arg7.IsWhole) (arg8 : Memref sig .tc .smem S4 .f32) (harg8 : arg8.IsWhole) (arg9 : Memref sig .tc .vmem S4x64x64 .f32) (harg9 : arg9.IsWhole) (k0_h3 : k0_cond3 i = 1#1) (v14 : Elt F .f32) (v15 : Elt F .f32) (v19 : F .f32) (v23 : F .f32) (c0_i32_29 : BitVec 32) (c1_i32_31 : BitVec 32) (X_arg5 : BufTy.Contents (Elt F) arg5.view.ty) (X_arg6 : BufTy.Contents (Elt F) arg6.view.ty) (k : Fin k0_t6_loop.trips) (f : BufTy.Contents (Elt F) arg9.view.ty) :
    tripL_k0_t6 (F := F) 𝒱 c bd i arg3 harg3 arg4 harg4 arg5 harg5 arg6 harg6 arg7 harg7 arg8 harg8 arg9 harg9 k0_h3 v14 v15 v19 v23 k0_pay354 c0_i32_29 c1_i32_31 X_arg5 X_arg6 k f
      = tripList (binsOf v14 v19 (View.ld (S := S1x1x6x224x192) (arg5.view.read (Elt F) X_arg5) (Rect.unit (s := S1x1x6x224x192) (k0_off6 k) S1x1x1x32x192.size (k0_off6_inb i k k0_h3))))
          (binsOf v15 v23 (View.ld (S := S1x1x6x224x192) (arg6.view.read (Elt F) X_arg6) (Rect.unit (s := S1x1x6x224x192) (k0_off6 k) S1x1x1x32x192.size (k0_off6_inb i k k0_h3)))) (arg9.view.read (Elt F) f) := by
  unfold tripL_k0_t6 trip_k0_t6
  rfl

/-- What loop 6 leaves in the tables. -/
theorem read_pb6 (𝒱 : Variants) (c : Dev nD) (bd : Option 𝒱.V) (i : grid0.Coords) (arg3 : Memref sig .tc .vmem S1x1x128 .f32) (harg3 : arg3.IsWhole) (arg4 : Memref sig .tc .vmem S1x1x128 .f32) (harg4 : arg4.IsWhole) (arg5 : Memref sig .tc .vmem S1x1x6x224x192 .f32) (harg5 : arg5.IsWhole) (arg6 : Memref sig .tc .vmem S1x1x6x224x192 .f32) (harg6 : arg6.IsWhole) (arg7 : Memref sig .tc .vmem S1x1x128 .f32) (harg7 : arg7.IsWhole) (arg8 : Memref sig .tc .smem S4 .f32) (harg8 : arg8.IsWhole) (arg9 : Memref sig .tc .vmem S4x64x64 .f32) (harg9 : arg9.IsWhole) (k0_h3 : k0_cond3 i = 1#1) (v14 : Elt F .f32) (v15 : Elt F .f32) (v19 : F .f32) (v23 : F .f32) (c0_i32_29 : BitVec 32) (c1_i32_31 : BitVec 32) (X_arg5 : BufTy.Contents (Elt F) arg5.view.ty) (X_arg6 : BufTy.Contents (Elt F) arg6.view.ty) (G : BufTy.Contents (Elt F) arg9.view.ty) :
    arg9.view.read (Elt F) (arg9.view.writes (Elt F) G (pb_k0_t6 (F := F) 𝒱 c bd i arg3 harg3 arg4 harg4 arg5 harg5 arg6 harg6 arg7 harg7 arg8 harg8 arg9 harg9 k0_h3 v14 v15 v19 v23 k0_pay354 c0_i32_29 c1_i32_31 X_arg5 X_arg6 G k0_t6_loop.trips))
      = trips (rowBins v14 v15 v19 v23 (arg5.view.read (Elt F) X_arg5) (arg6.view.read (Elt F) X_arg6) 5) (arg9.view.read (Elt F) G) 7 := by
  refine read_trips arg9.view G (pb_k0_t6 (F := F) 𝒱 c bd i arg3 harg3 arg4 harg4 arg5 harg5 arg6 harg6 arg7 harg7 arg8 harg8 arg9 harg9 k0_h3 v14 v15 v19 v23 k0_pay354 c0_i32_29 c1_i32_31 X_arg5 X_arg6 G) _ rfl (fun k hk => ?_) 7 (Nat.le_refl 7)
  have ho : k0_off6 ⟨k, hk⟩ = ![0, 0, 5, 32 * k, 0] := congrArg (fun r : ℕ => ![0, 0, 5, r, 0]) (row_off k hk)
  refine (pb_k0_t6_succ (F := F) 𝒱 c bd i arg3 harg3 arg4 harg4 arg5 harg5 arg6 harg6 arg7 harg7 arg8 harg8 arg9 harg9 k0_h3 v14 v15 v19 v23 k0_pay354 c0_i32_29 c1_i32_31 X_arg5 X_arg6 G ⟨k, hk⟩).trans ?_
  rw [tripL6_eq, ld_rows _ 5 k hk _ ho, ld_rows _ 5 k hk _ ho]
  rfl

end Cert.KernelIdeal.Gen

end
-- ==== Proof.Ideal.Range.lean ====
module

public import proofs.«01_k».proof.Proof.Ideal.Hist
public import Idealize.ShloMosaic.Lib.WritesUnit
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation cellOf)

local notation "𝕄" => MT nD τ sig Unit (Elt F) ℕ (UR sig nD τ) ℕ

/-- First point of a volume. -/
abbrev cond0 (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
/-- First pass: least and greatest values. -/
abbrev cond1 (i : grid0.Coords) : Prop := Scalar.cmpi .ne (Scalar.extui (Scalar.cmpi .eq (BitVec.ofNat 32 (i 1).val) 0#32)) 0#32 = 1#1
/-- Second pass: counting. -/
abbrev cond2 (i : grid0.Coords) : Prop := k0_cond3 i = 1#1
/-- First block of a pass. -/
abbrev cond3 (i : grid0.Coords) : Prop := Scalar.cmpi .ne (Scalar.extui (Scalar.cmpi .eq (BitVec.ofNat 32 (i 2).val) 0#32)) 0#32 = 1#1
/-- Last block of a pass. -/
abbrev cond4 (i : grid0.Coords) : Prop := k0_cond5 i = 1#1

/-- Four numbers: least and greatest value of the first volume, then of the second. -/
def four (a b p q : F .f32) : Vec F S4 .f32 := fun j => (![a, b, p, q] : Fin 4 → F .f32) (j 0)

/-- The index of entry `k` of the four. -/
def ix4 (k : Fin 4) : S4.Idx := fun a => match a with
  | ⟨0, _⟩ => k

/-- The four numbers before any voxel. -/
def mmInit : Vec F S4 .f32 :=
  four (Scalar.ofBits .f32 0x7F800000#32) (Scalar.ofBits .f32 0xFF800000#32) (Scalar.ofBits .f32 0x7F800000#32) (Scalar.ofBits .f32 0xFF800000#32)

/-- The four numbers with a block of both volumes taken in. -/
def mmStep (o : Vec F S4 .f32) (x y : Vec F S1x1x6x224x192 .f32) : Vec F S4 .f32 :=
  four (k0_pay3 x (o (ix4 0))) (k0_pay4 x (o (ix4 1))) (k0_pay5 y (o (ix4 2))) (k0_pay6 y (o (ix4 3)))

/-- The one index of a single entry. -/
def ix1 : S1.Idx := fun a => match a with
  | ⟨0, _⟩ => (0 : Fin 1)

theorem four_congr {a a' b b' p p' q q' : F .f32} (h0 : a = a') (h1 : b = b') (h2 : p = p') (h3 : q = q') : four a b p q = four a' b' p' q' := by
  rw [h0, h1, h2, h3]

/-- What four stores leave, whatever was stored before. -/
theorem read_four (v : View sig .tc .smem S4 .f32) (f : v.ty.Contents (Elt F)) (L : List (View.Piece (Elt F) S4 .f32)) (a b p q : F .f32) :
    v.read (Elt F) (v.writes (Elt F) f (⟨Rect.unit (s := S4) ![3] S1.size inb_S4_S1_3, fun _ => q⟩ :: ⟨Rect.unit (s := S4) ![2] S1.size inb_S4_S1_2, fun _ => p⟩
      :: ⟨Rect.unit (s := S4) ![1] S1.size inb_S4_S1_1, fun _ => b⟩ :: ⟨Rect.unit (s := S4) ![0] S1.size inb_S4_S1_0, fun _ => a⟩ :: L)) = four a b p q := by
  funext y
  have hy : (y 0).val < 4 := (y 0).isLt
  have e : y = ix4 (y 0) := funext fun a => by fin_cases a; rfl
  rw [e]
  generalize y 0 = k at *
  fin_cases k
  · rw [View.read_writes_cons_unit_of_not_mem v f _ _ _ _ rfl 0 (by decide), View.read_writes_cons_unit_of_not_mem v f _ _ _ _ rfl 0 (by decide), View.read_writes_cons_unit_of_not_mem v f _ _ _ _ rfl 0 (by decide),
      View.read_writes_cons_unit_of_mem v f inb_S4_S1_0 _ _ _ ix1 rfl (by decide)]; rfl
  · rw [View.read_writes_cons_unit_of_not_mem v f _ _ _ _ rfl 0 (by decide), View.read_writes_cons_unit_of_not_mem v f _ _ _ _ rfl 0 (by decide),
      View.read_writes_cons_unit_of_mem v f inb_S4_S1_1 _ _ _ ix1 rfl (by decide)]; rfl
  · rw [View.read_writes_cons_unit_of_not_mem v f _ _ _ _ rfl 0 (by decide),
      View.read_writes_cons_unit_of_mem v f inb_S4_S1_2 _ _ _ ix1 rfl (by decide)]; rfl
  · rw [View.read_writes_cons_unit_of_mem v f inb_S4_S1_3 _ _ _ ix1 rfl (by decide)]; rfl

/-- One of the four numbers read back. -/
theorem word (arg8 : Memref sig .tc .smem S4 .f32) (harg8 : arg8.IsWhole) (xm : Vec F S4 .f32) (k : Fin 4) {off : Fin 1 → ℕ} (inb : ∀ a, off a + S1.size a ≤ S4.size a)
    (ho : off = ![k.val]) (j : S1.Idx) :
    View.readAt (Elt F) arg8.view (Rect.unit (s := S4) off S1.size inb).toLoadRect (harg8.unread xm) j = xm (ix4 k) := by
  subst ho
  refine (congrFun (View.readAt_eq_ld arg8.view (harg8.unread xm) (Rect.unit (s := S4) ![k.val] S1.size inb)) j).trans ?_
  rw [harg8.read_unread]
  refine congrArg xm (funext fun a => Fin.ext ?_)
  have hj : (j 0).val < 1 := (j 0).isLt
  match a with
  | ⟨0, _⟩ => exact (by show k.val + 1 * (j 0).val = k.val; omega)

/-- A whole block read. -/
theorem whole5 (arg5 : Memref sig .tc .vmem S1x1x6x224x192 .f32) (harg5 : arg5.IsWhole) (x : Vec F S1x1x6x224x192 .f32) :
    View.readAt (Elt F) arg5.view (Rect.unit (s := S1x1x6x224x192) ![0, 0, 0, 0, 0] S1x1x6x224x192.size inb_S1x1x6x224x192_S1x1x6x224x192_0_0_0_0_0).toLoadRect (harg5.unread x) = x := by
  refine (View.readAt_full arg5.view (harg5.unread x) inb_S1x1x6x224x192_S1x1x6x224x192_0_0_0_0_0).trans (harg5.read_unread x)

/-- What the range update stores is the step of the four numbers. -/
theorem mmStep_of (o : Vec F S4 .f32) (x y x' y' : Vec F S1x1x6x224x192 .f32) {a b p q : F .f32} (hx : x' = x) (hy : y' = y)
    (ha : a = o (ix4 0)) (hb : b = o (ix4 1)) (hp : p = o (ix4 2)) (hq : q = o (ix4 3)) :
    four (k0_pay3 x' a) (k0_pay4 x' b) (k0_pay5 y' p) (k0_pay6 y' q) = mmStep o x y := by
  subst hx hy ha hb hp hq; rfl

set_option maxHeartbeats 1000000 in
/-- A later point of the first pass takes its block into the four numbers. -/
theorem body_B (c : Dev nD) (i : grid0.Coords) (arg3 : Memref sig .tc .vmem S1x1x128 .f32) (harg3 : arg3.IsWhole) (arg4 : Memref sig .tc .vmem S1x1x128 .f32) (harg4 : arg4.IsWhole) (arg5 : Memref sig .tc .vmem S1x1x6x224x192 .f32) (harg5 : arg5.IsWhole) (arg6 : Memref sig .tc .vmem S1x1x6x224x192 .f32) (harg6 : arg6.IsWhole) (arg7 : Memref sig .tc .vmem S1x1x128 .f32) (harg7 : arg7.IsWhole) (arg8 : Memref sig .tc .smem S4 .f32) (harg8 : arg8.IsWhole) (arg9 : Memref sig .tc .vmem S4x64x64 .f32) (harg9 : arg9.IsWhole) (hc0 : ¬cond0 i) (hc1 : cond1 i) (hc2 : ¬cond2 i)
    (x0 x1 : Vec F S1x1x128 .f32) (x2 x3 : Vec F S1x1x6x224x192 .f32) (xi : Vec F S1x1x128 .f32) (xm : Vec F S4 .f32) (xt : Vec F S4x64x64 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare xm ∗ owns (c : Thread nD τ) arg9 fullShare xt
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare (mmStep xm x2 x3) ∗ owns (c : Thread nD τ) arg9 fullShare xt) -∗ K ⟨⟩))
      ⊢ wp frame (wpE (defs₀ (F := F)) Variants.none c none) E (cc0__loss_kernel i arg3 harg3 arg4 harg4 arg5 harg5 arg6 harg6 arg7 harg7 arg8 harg8 arg9 harg9) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HS0]
  · iexists _; isplitr; swap; · iexact HS0
    ipureintro
    refine (read_four arg8.view _ _ _ _ _ _).trans ?_
    exact (mmStep_of xm x2 x3 _ _ (whole5 arg5 harg5 x2) (whole5 arg6 harg6 x3) (word arg8 harg8 xm 0 _ rfl _) (word arg8 harg8 xm 1 _ rfl _) (word arg8 harg8 xm 2 _ rfl _) (word arg8 harg8 xm 3 _ rfl _))
  iexists _; isplitr; · ipureintro; exact harg9.read_unread _
  iexact HS1

set_option maxHeartbeats 1000000 in
/-- The first point of a volume starts the four numbers and takes its block in. -/
theorem body_A (c : Dev nD) (i : grid0.Coords) (arg3 : Memref sig .tc .vmem S1x1x128 .f32) (harg3 : arg3.IsWhole) (arg4 : Memref sig .tc .vmem S1x1x128 .f32) (harg4 : arg4.IsWhole) (arg5 : Memref sig .tc .vmem S1x1x6x224x192 .f32) (harg5 : arg5.IsWhole) (arg6 : Memref sig .tc .vmem S1x1x6x224x192 .f32) (harg6 : arg6.IsWhole) (arg7 : Memref sig .tc .vmem S1x1x128 .f32) (harg7 : arg7.IsWhole) (arg8 : Memref sig .tc .smem S4 .f32) (harg8 : arg8.IsWhole) (arg9 : Memref sig .tc .vmem S4x64x64 .f32) (harg9 : arg9.IsWhole) (hc0 : cond0 i) (hc1 : cond1 i) (hc2 : ¬cond2 i)
    (x0 x1 : Vec F S1x1x128 .f32) (x2 x3 : Vec F S1x1x6x224x192 .f32) (xi : Vec F S1x1x128 .f32) (xm : Vec F S4 .f32) (xt : Vec F S4x64x64 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare xm ∗ owns (c : Thread nD τ) arg9 fullShare xt
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare (mmStep mmInit x2 x3) ∗ owns (c : Thread nD τ) arg9 fullShare xt) -∗ K ⟨⟩))
      ⊢ wp frame (wpE (defs₀ (F := F)) Variants.none c none) E (cc0__loss_kernel i arg3 harg3 arg4 harg4 arg5 harg5 arg6 harg6 arg7 harg7 arg8 harg8 arg9 harg9) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HS0]
  · iexists _; isplitr; swap; · iexact HS0
    ipureintro
    refine (read_four arg8.view _ _ _ _ _ _).trans ?_
    exact (mmStep_of mmInit x2 x3 _ _ (whole5 arg5 harg5 x2) (whole5 arg6 harg6 x3) rfl rfl rfl rfl)
  iexists _; isplitr; · ipureintro; exact harg9.read_unread _
  iexact HS1

end Cert.KernelIdeal.Gen

end
-- ==== Proof.Ideal.Count.lean ====
module

public import proofs.«01_k».proof.Proof.Ideal.Range

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation cellOf)

local notation "𝕄" => MT nD τ sig Unit (Elt F) ℕ (UR sig nD τ) ℕ

/-- The bin numbers of both volumes over the rows of plane `d`, from the four numbers. -/
def binsAt (xm : Vec F S4 .f32) (x y : Vec F S1x1x6x224x192 .f32) (d : Fin 6) : ℕ → IVec S32x192 8 × IVec S32x192 8 :=
  rowBins (xm (ix4 0)) (xm (ix4 2)) (invRange (xm (ix4 0)) (xm (ix4 1))) (invRange (xm (ix4 2)) (xm (ix4 3))) x y d

/-- A block of both volumes counted into the four tables, plane by plane. -/
def count (xm : Vec F S4 .f32) (x y : Vec F S1x1x6x224x192 .f32) (T : Vec F S4x64x64 .f32) : Vec F S4x64x64 .f32 :=
  trips (binsAt xm x y 5) (trips (binsAt xm x y 4) (trips (binsAt xm x y 3) (trips (binsAt xm x y 2) (trips (binsAt xm x y 1) (trips (binsAt xm x y 0) T 7) 7) 7) 7) 7) 7

/-- The four empty tables. -/
abbrev noCount : Vec F S4x64x64 .f32 := k0_pay351

/-- Table `r` of the four. -/
def tab (T : Vec F S4x64x64 .f32) (r : Fin 4) : Vec F S1x64x64 .f32 := fun j => T (fun a => match a with
  | ⟨0, _⟩ => r
  | ⟨1, _⟩ => j 1
  | ⟨2, _⟩ => j 2)

/-- A volume's line of results, from its tables and the two padded rows. -/
def finish (x0 x1 : Vec F S1x1x128 .f32) (T : Vec F S4x64x64 .f32) : FVec F S1x1x128 .f32 :=
  k0_pay350 (k0_pay347 (tab T 0) (tab T 1) (tab T 2) (tab T 3)) (k0_pay348 (tab T 0) (tab T 1) (tab T 2) (tab T 3)) (k0_pay349 (tab T 0) (tab T 1) (tab T 2) (tab T 3)) x0 x1

theorem count_of (xm : Vec F S4 .f32) (x y x' y' : Vec F S1x1x6x224x192 .f32) (T T' : Vec F S4x64x64 .f32) {a b p q : F .f32} (hx : x' = x) (hy : y' = y) (hT : T' = T)
    (ha : a = xm (ix4 0)) (hp : p = xm (ix4 2)) (hb : b = xm (ix4 1)) (hq : q = xm (ix4 3)) :
    trips (rowBins a p (invRange a b) (invRange p q) x' y' 5) (trips (rowBins a p (invRange a b) (invRange p q) x' y' 4) (trips (rowBins a p (invRange a b) (invRange p q) x' y' 3)
      (trips (rowBins a p (invRange a b) (invRange p q) x' y' 2) (trips (rowBins a p (invRange a b) (invRange p q) x' y' 1) (trips (rowBins a p (invRange a b) (invRange p q) x' y' 0) T' 7) 7) 7) 7) 7) 7
      = count xm x y T := by
  subst hx hy hT ha hp hb hq; rfl

/-- One loop after another. -/
theorem read_next (v : View sig .tc .vmem S4x64x64 .f32) (G : v.ty.Contents (Elt F)) (L P : List (View.Piece (Elt F) S4x64x64 .f32)) (q : ℕ → IVec S32x192 8 × IVec S32x192 8)
    (T : Vec F S4x64x64 .f32) (hP : v.read (Elt F) (v.writes (Elt F) G P) = T)
    (hL : v.read (Elt F) (v.writes (Elt F) (v.writes (Elt F) G P) L) = trips q (v.read (Elt F) (v.writes (Elt F) G P)) 7) :
    v.read (Elt F) (v.writes (Elt F) G (L ++ P)) = trips q T 7 := by
  rw [View.writes_append, hL, hP]

/-- Table `r` read back. -/
theorem ld_tab (v : View sig .tc .vmem S4x64x64 .f32) (f : v.ty.Contents (Elt F)) (T : Vec F S4x64x64 .f32) (hf : v.read (Elt F) f = T) (r : Fin 4) {off : Fin 3 → ℕ}
    (inb : ∀ a, off a + S1x64x64.size a ≤ S4x64x64.size a) (ho : off = ![r.val, 0, 0]) :
    View.readAt (Elt F) v (Rect.unit (s := S4x64x64) off S1x64x64.size inb).toLoadRect f = tab T r := by
  subst ho hf
  funext j
  refine congrArg (v.read (Elt F) f) (funext fun a => Fin.ext ?_)
  have hj : (j 0).val < 1 := (j 0).isLt
  match a with
  | ⟨0, _⟩ => exact (by show r.val + 1 * (j 0).val = r.val; omega)
  | ⟨1, _⟩ => exact (by show 0 + 1 * (j 1).val = (j 1).val; omega)
  | ⟨2, _⟩ => exact (by show 0 + 1 * (j 2).val = (j 2).val; omega)

/-- The line of results, from the tables and rows read back. -/
theorem finish_of (x0 x1 y0 y1 : Vec F S1x1x128 .f32) (v : View sig .tc .vmem S4x64x64 .f32) (f : v.ty.Contents (Elt F)) (T : Vec F S4x64x64 .f32) (hf : v.read (Elt F) f = T)
    {o0 o1 o2 o3 : Fin 3 → ℕ} (i0 : ∀ a, o0 a + S1x64x64.size a ≤ S4x64x64.size a) (i1 : ∀ a, o1 a + S1x64x64.size a ≤ S4x64x64.size a)
    (i2 : ∀ a, o2 a + S1x64x64.size a ≤ S4x64x64.size a) (i3 : ∀ a, o3 a + S1x64x64.size a ≤ S4x64x64.size a)
    (h0 : o0 = ![0, 0, 0]) (h1 : o1 = ![1, 0, 0]) (h2 : o2 = ![2, 0, 0]) (h3 : o3 = ![3, 0, 0]) (hx : y0 = x0) (hy : y1 = x1) {a b p q : Vec F S1x64x64 .f32}
    (ha : a = View.readAt (Elt F) v (Rect.unit (s := S4x64x64) o0 S1x64x64.size i0).toLoadRect f)
    (hb : b = View.readAt (Elt F) v (Rect.unit (s := S4x64x64) o1 S1x64x64.size i1).toLoadRect f)
    (hp : p = View.readAt (Elt F) v (Rect.unit (s := S4x64x64) o2 S1x64x64.size i2).toLoadRect f)
    (hq : q = View.readAt (Elt F) v (Rect.unit (s := S4x64x64) o3 S1x64x64.size i3).toLoadRect f) :
    k0_pay350 (k0_pay347 a b p q) (k0_pay348 a b p q) (k0_pay349 a b p q) y0 y1 = finish x0 x1 T := by
  rw [ha, hb, hp, hq, ld_tab v f T hf 0 i0 h0, ld_tab v f T hf 1 i1 h1, ld_tab v f T hf 2 i2 h2, ld_tab v f T hf 3 i3 h3, hx, hy]; rfl

/-- A store of all four tables covers them. -/
theorem coverZero : ∀ y, ∃ p ∈ [(⟨Rect.unit (s := S4x64x64) ![0, 0, 0] S4x64x64.size inb_S4x64x64_S4x64x64_0_0_0, noCount (F := F)⟩ : View.Piece (Elt F) S4x64x64 .f32)], y ∈ p.1.set := fun y =>
  by
  refine ⟨_, List.mem_singleton_self _, ?_⟩
  rw [Rect.mem_set_unit]
  intro a
  have h := (y a).isLt
  have e : (![0, 0, 0] : Fin 3 → ℕ) a = 0 := match a with
    | ⟨0, _⟩ => rfl
    | ⟨1, _⟩ => rfl
    | ⟨2, _⟩ => rfl
  exact ⟨(le_of_eq e).trans (Nat.zero_le _), h.trans_le (Nat.le_add_left _ _)⟩

/-- Pieces that cover still cover after further ones. -/
theorem cover_append {P : List (View.Piece (Elt F) S4x64x64 .f32)} (h : ∀ y, ∃ p ∈ P, y ∈ p.1.set) (L : List (View.Piece (Elt F) S4x64x64 .f32)) :
    ∀ y, ∃ p ∈ L ++ P, y ∈ p.1.set := fun y => by
  obtain ⟨p, hp, hy⟩ := h y
  exact ⟨p, List.mem_append_right L hp, hy⟩

set_option maxHeartbeats 1000000 in
/-- A later point of the second pass, not the last, counts its block. -/
theorem body_D (c : Dev nD) (i : grid0.Coords) (arg3 : Memref sig .tc .vmem S1x1x128 .f32) (harg3 : arg3.IsWhole) (arg4 : Memref sig .tc .vmem S1x1x128 .f32) (harg4 : arg4.IsWhole) (arg5 : Memref sig .tc .vmem S1x1x6x224x192 .f32) (harg5 : arg5.IsWhole) (arg6 : Memref sig .tc .vmem S1x1x6x224x192 .f32) (harg6 : arg6.IsWhole) (arg7 : Memref sig .tc .vmem S1x1x128 .f32) (harg7 : arg7.IsWhole) (arg8 : Memref sig .tc .smem S4 .f32) (harg8 : arg8.IsWhole) (arg9 : Memref sig .tc .vmem S4x64x64 .f32) (harg9 : arg9.IsWhole) (hc0 : ¬cond0 i) (hc1 : ¬cond1 i) (hc2 : cond2 i) (hc3 : ¬cond3 i) (hc4 : ¬cond4 i)
    (x0 x1 : Vec F S1x1x128 .f32) (x2 x3 : Vec F S1x1x6x224x192 .f32) (xi : Vec F S1x1x128 .f32) (xm : Vec F S4 .f32) (xt : Vec F S4x64x64 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare xm ∗ owns (c : Thread nD τ) arg9 fullShare xt
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare xm ∗ owns (c : Thread nD τ) arg9 fullShare (count xm x2 x3 xt)) -∗ K ⟨⟩))
      ⊢ wp frame (wpE (defs₀ (F := F)) Variants.none c none) E (cc0__loss_kernel i arg3 harg3 arg4 harg4 arg5 harg5 arg6 harg6 arg7 harg7 arg8 harg8 arg9 harg9) K := by
  simp only [cc0__loss_kernel_eq_skeleton]; unfold cc0__loss_kernel_skel
  simp only [k0_part69_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1
  sl_exec (disch := first | sl_exact hc0 | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HS0]
  · iexists _; isplitr; · ipureintro; exact harg8.read_unread _
    iexact HS0
  iexists _; isplitr; swap; · iexact HS1
  ipureintro
  refine (read_next arg9.view _ _ _ _ _ (read_next arg9.view _ _ _ _ _ (read_next arg9.view _ _ _ _ _ (read_next arg9.view _ _ _ _ _ (read_next arg9.view _ _ _ _ _ (read_pb1 ..) (read_pb2 ..)) (read_pb3 ..)) (read_pb4 ..)) (read_pb5 ..)) (read_pb6 ..)).trans ?_
  exact (count_of xm x2 x3 _ _ xt _ (harg5.read_unread x2) (harg6.read_unread x3) (harg9.read_unread xt) (word arg8 harg8 xm 0 _ rfl _) (word arg8 harg8 xm 2 _ rfl _) (word arg8 harg8 xm 1 _ rfl _) (word arg8 harg8 xm 3 _ rfl _))

set_option maxHeartbeats 1000000 in
/-- The first point of the second pass empties the tables and counts its block. -/
theorem body_C (c : Dev nD) (i : grid0.Coords) (arg3 : Memref sig .tc .vmem S1x1x128 .f32) (harg3 : arg3.IsWhole) (arg4 : Memref sig .tc .vmem S1x1x128 .f32) (harg4 : arg4.IsWhole) (arg5 : Memref sig .tc .vmem S1x1x6x224x192 .f32) (harg5 : arg5.IsWhole) (arg6 : Memref sig .tc .vmem S1x1x6x224x192 .f32) (harg6 : arg6.IsWhole) (arg7 : Memref sig .tc .vmem S1x1x128 .f32) (harg7 : arg7.IsWhole) (arg8 : Memref sig .tc .smem S4 .f32) (harg8 : arg8.IsWhole) (arg9 : Memref sig .tc .vmem S4x64x64 .f32) (harg9 : arg9.IsWhole) (hc0 : ¬cond0 i) (hc1 : ¬cond1 i) (hc2 : cond2 i) (hc3 : cond3 i) (hc4 : ¬cond4 i)
    (x0 x1 : Vec F S1x1x128 .f32) (x2 x3 : Vec F S1x1x6x224x192 .f32) (xi : Vec F S1x1x128 .f32) (xm : Vec F S4 .f32) (xt : Vec F S4x64x64 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare xm ∗ owns (c : Thread nD τ) arg9 fullShare xt
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare xm ∗ owns (c : Thread nD τ) arg9 fullShare (count xm x2 x3 noCount)) -∗ K ⟨⟩))
      ⊢ wp frame (wpE (defs₀ (F := F)) Variants.none c none) E (cc0__loss_kernel i arg3 harg3 arg4 harg4 arg5 harg5 arg6 harg6 arg7 harg7 arg8 harg8 arg9 harg9) K := by
  simp only [cc0__loss_kernel_eq_skeleton]; unfold cc0__loss_kernel_skel
  simp only [k0_part69_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1
  sl_exec (disch := first | sl_exact hc0 | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HS0]
  · iexists _; isplitr; · ipureintro; exact harg8.read_unread _
    iexact HS0
  iexists _; isplitr; swap; · iexact HS1
  ipureintro
  refine (View.read_writes_of_cover arg9.view _ arg9.view arg9.view.junk _ (cover_append (cover_append (cover_append (cover_append (cover_append (cover_append coverZero _) _) _) _) _) _)).trans ?_
  refine (read_next arg9.view _ _ _ _ _ (read_next arg9.view _ _ _ _ _ (read_next arg9.view _ _ _ _ _ (read_next arg9.view _ _ _ _ _ (read_next arg9.view _ _ _ _ _ (read_next arg9.view _ _ _ _ _ (View.read_writes_full arg9.view _ _ _ _) (read_pb1 ..)) (read_pb2 ..)) (read_pb3 ..)) (read_pb4 ..)) (read_pb5 ..)) (read_pb6 ..)).trans ?_
  exact (count_of xm x2 x3 _ _ noCount _ (harg5.read_unread x2) (harg6.read_unread x3) rfl (word arg8 harg8 xm 0 _ rfl _) (word arg8 harg8 xm 2 _ rfl _) (word arg8 harg8 xm 1 _ rfl _) (word arg8 harg8 xm 3 _ rfl _))

set_option maxHeartbeats 1000000 in
/-- The last point counts its block and writes the results. -/
theorem body_E (c : Dev nD) (i : grid0.Coords) (arg3 : Memref sig .tc .vmem S1x1x128 .f32) (harg3 : arg3.IsWhole) (arg4 : Memref sig .tc .vmem S1x1x128 .f32) (harg4 : arg4.IsWhole) (arg5 : Memref sig .tc .vmem S1x1x6x224x192 .f32) (harg5 : arg5.IsWhole) (arg6 : Memref sig .tc .vmem S1x1x6x224x192 .f32) (harg6 : arg6.IsWhole) (arg7 : Memref sig .tc .vmem S1x1x128 .f32) (harg7 : arg7.IsWhole) (arg8 : Memref sig .tc .smem S4 .f32) (harg8 : arg8.IsWhole) (arg9 : Memref sig .tc .vmem S4x64x64 .f32) (harg9 : arg9.IsWhole) (hc0 : ¬cond0 i) (hc1 : ¬cond1 i) (hc2 : cond2 i) (hc3 : ¬cond3 i) (hc4 : cond4 i)
    (x0 x1 : Vec F S1x1x128 .f32) (x2 x3 : Vec F S1x1x6x224x192 .f32) (xi : Vec F S1x1x128 .f32) (xm : Vec F S4 .f32) (xt : Vec F S4x64x64 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare xm ∗ owns (c : Thread nD τ) arg9 fullShare xt
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (finish x0 x1 (count xm x2 x3 xt)) ∗ owns (c : Thread nD τ) arg8 fullShare xm ∗ owns (c : Thread nD τ) arg9 fullShare (count xm x2 x3 xt)) -∗ K ⟨⟩))
      ⊢ wp frame (wpE (defs₀ (F := F)) Variants.none c none) E (cc0__loss_kernel i arg3 harg3 arg4 harg4 arg5 harg5 arg6 harg6 arg7 harg7 arg8 harg8 arg9 harg9) K := by
  simp only [cc0__loss_kernel_eq_skeleton]; unfold cc0__loss_kernel_skel
  simp only [k0_part69_eq_skeleton, k0_part67_eq_skeleton, k0_part68_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1
  sl_exec (disch := first | sl_exact hc0 | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    refine (View.read_writes_full arg7.view _ _ _ _).trans ?_
    refine finish_of x0 x1 _ _ arg9.view _ (count xm x2 x3 xt) ?_ _ _ _ _ rfl rfl rfl rfl ((View.readAt_full arg3.view _ _).trans (harg3.read_unread x0)) ((View.readAt_full arg4.view _ _).trans (harg4.read_unread x1)) rfl rfl rfl rfl
    refine (read_next arg9.view _ _ _ _ _ (read_next arg9.view _ _ _ _ _ (read_next arg9.view _ _ _ _ _ (read_next arg9.view _ _ _ _ _ (read_next arg9.view _ _ _ _ _ (read_pb1 ..) (read_pb2 ..)) (read_pb3 ..)) (read_pb4 ..)) (read_pb5 ..)) (read_pb6 ..)).trans ?_
    exact (count_of xm x2 x3 _ _ xt _ (harg5.read_unread x2) (harg6.read_unread x3) (harg9.read_unread xt) (word arg8 harg8 xm 0 _ rfl _) (word arg8 harg8 xm 2 _ rfl _) (word arg8 harg8 xm 1 _ rfl _) (word arg8 harg8 xm 3 _ rfl _))
  isplitl [HS0]
  · iexists _; isplitr; · ipureintro; exact harg8.read_unread _
    iexact HS0
  iexists _; isplitr; swap; · iexact HS1
  ipureintro
  refine (read_next arg9.view _ _ _ _ _ (read_next arg9.view _ _ _ _ _ (read_next arg9.view _ _ _ _ _ (read_next arg9.view _ _ _ _ _ (read_next arg9.view _ _ _ _ _ (read_pb1 ..) (read_pb2 ..)) (read_pb3 ..)) (read_pb4 ..)) (read_pb5 ..)) (read_pb6 ..)).trans ?_
  exact (count_of xm x2 x3 _ _ xt _ (harg5.read_unread x2) (harg6.read_unread x3) (harg9.read_unread xt) (word arg8 harg8 xm 0 _ rfl _) (word arg8 harg8 xm 2 _ rfl _) (word arg8 harg8 xm 1 _ rfl _) (word arg8 harg8 xm 3 _ rfl _))

end Cert.KernelIdeal.Gen

end
-- ==== Proof.Ideal.Steps.lean ====
module

public import proofs.«01_k».proof.Proof.Ideal.Count
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The state between points -/

/-- The block of the first volume array at point `t`. -/
abbrev fblk (c : Dev nD) (t : Fin cfg0.N) : Vec F S1x1x6x224x192 .f32 := iblk m c 2 t
/-- The block of the second volume array at point `t`. -/
abbrev wblk (c : Dev nD) (t : Fin cfg0.N) : Vec F S1x1x6x224x192 .f32 := iblk m c 3 t

/-- The four numbers before point `n`: the first pass of each volume builds them up, the second keeps them. -/
def mmAt (c : Dev nD) : ℕ → Vec F S4 .f32
  | 0 => mmInit
  | n + 1 => if h : n < cfg0.N then
      (if n / 32 % 2 = 0 then mmStep (if n % 64 = 0 then mmInit else mmAt c n) (fblk m c ⟨n, h⟩) (wblk m c ⟨n, h⟩) else mmAt c n)
    else mmInit

/-- The four tables before point `n`: the second pass of each volume counts into them. -/
def tabAt (c : Dev nD) : ℕ → Vec F S4x64x64 .f32
  | 0 => noCount
  | n + 1 => if h : n < cfg0.N then
      (if n / 32 % 2 = 1 then count (mmAt m c n) (fblk m c ⟨n, h⟩) (wblk m c ⟨n, h⟩) (if n % 32 = 0 then noCount else tabAt c n) else tabAt c n)
    else noCount

theorem mmAt_first (c : Dev nD) (t : Fin cfg0.N) (h : t.val % 64 = 0) : mmAt m c (t.val + 1) = mmStep mmInit (fblk m c t) (wblk m c t) := by
  unfold mmAt; rw [dif_pos t.isLt, if_pos (by omega), if_pos h]
theorem mmAt_next (c : Dev nD) (t : Fin cfg0.N) (h : t.val % 64 ≠ 0) (h' : t.val / 32 % 2 = 0) :
    mmAt m c (t.val + 1) = mmStep (mmAt m c t.val) (fblk m c t) (wblk m c t) := by
  rw [mmAt, dif_pos t.isLt, if_pos h', if_neg h]
theorem mmAt_keep (c : Dev nD) (t : Fin cfg0.N) (h' : t.val / 32 % 2 = 1) : mmAt m c (t.val + 1) = mmAt m c t.val := by
  rw [mmAt, dif_pos t.isLt, if_neg (by omega)]
theorem tabAt_first (c : Dev nD) (t : Fin cfg0.N) (h : t.val / 32 % 2 = 1) (h' : t.val % 32 = 0) :
    tabAt m c (t.val + 1) = count (mmAt m c t.val) (fblk m c t) (wblk m c t) noCount := by
  rw [tabAt, dif_pos t.isLt, if_pos h, if_pos h']
theorem tabAt_next (c : Dev nD) (t : Fin cfg0.N) (h : t.val / 32 % 2 = 1) (h' : t.val % 32 ≠ 0) :
    tabAt m c (t.val + 1) = count (mmAt m c t.val) (fblk m c t) (wblk m c t) (tabAt m c t.val) := by
  rw [tabAt, dif_pos t.isLt, if_pos h, if_neg h']

/-- What the two scratch buffers hold before point `n`, where something later depends on it. -/
def Holds (c : Dev nD) (n : ℕ) (xm : Vec F S4 .f32) (xt : Vec F S4x64x64 .f32) : Prop :=
  (n % 64 ≠ 0 → xm = mmAt m c n) ∧ (32 < n % 64 → xt = tabAt m c n)

/-- The number scratch and the table scratch. -/
abbrev numRef : Memref sig .tc .smem S4 .f32 := Memref.whole cc0_scratch0
abbrev tabRef : Memref sig .tc .vmem S4x64x64 .f32 := Memref.whole cc0_scratch1

/-- Between points: the scratch buffers at what `Holds` says, and the generator register. -/
def Inv (c : Dev nD) (n : ℕ) : sProp 𝕄 :=
  iprop((∃ xm, ∃ xt, ⌜Holds m c n xm xt⌝ ∗ owns (c : Thread nD τ) tabRef fullShare xt ∗ owns (c : Thread nD τ) numRef fullShare xm) ∗ (∃ r, prngReg c r))

/-- What the launch gives of the scratch buffers and the register. -/
theorem given_eq (c : Dev nD) :
    (Pipeline.ΦA spec0 c : sProp 𝕄)
      = iprop(iprop((∃ d, owns (c : Thread nD τ) tabRef fullShare d) ∗ (∃ d, owns (c : Thread nD τ) numRef fullShare d)) ∗ (∃ r, prngReg c r)) := by
  unfold Pipeline.ΦA; rw [scopedRest0_eq]; simp only [tabRef, numRef, owns_whole]; try rfl

/-- The proof data: arrays as the region finds them, each input block left in place, the output's buffer at the line of
    results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => finish (iblk m c 0 t) (iblk m c 1 t) (tabAt m c (t.val + 1))
  Φ t := Inv m c t.val
  q _ := fullShare
  owed _ := 0

theorem dats_A (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = finish (iblk m c 0 t) (iblk m c 1 t) (tabAt m c (t.val + 1)) := by dsimp only [dats]
theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d

/-! ## Which case a point is in -/

/-- The three coordinates of a point. -/
theorem coords3 (t : Fin cfg0.N) : t.val < 128 ∧ (grid0.coords t 0).val = t.val / 64 % 2 ∧ (grid0.coords t 1).val = t.val / 32 % 2 ∧ (grid0.coords t 2).val = t.val / 1 % 32 :=
  ⟨Nat.lt_of_lt_of_eq t.isLt N_0, Pipeline.Grid.coords_val t 0 (by decide) rfl, Pipeline.Grid.coords_val t 1 (by decide) rfl, Pipeline.Grid.coords_val t 2 (by decide) rfl⟩

theorem cond0_iff (t : Fin cfg0.N) : cond0 (grid0.coords t) ↔ t.val % 64 = 0 := by
  obtain ⟨ht, e0, e1, e2⟩ := coords3 t
  simp only [cond0, e0, e1, e2]; word_cmp
theorem cond1_iff (t : Fin cfg0.N) : cond1 (grid0.coords t) ↔ t.val / 32 % 2 = 0 := by
  obtain ⟨ht, e0, e1, e2⟩ := coords3 t
  simp only [cond1, e0, e1, e2]; word_cmp
theorem cond2_iff (t : Fin cfg0.N) : cond2 (grid0.coords t) ↔ t.val / 32 % 2 = 1 := by
  obtain ⟨ht, e0, e1, e2⟩ := coords3 t
  simp only [cond2, k0_cond3, e0, e1, e2]; word_cmp
theorem cond3_iff (t : Fin cfg0.N) : cond3 (grid0.coords t) ↔ t.val % 32 = 0 := by
  obtain ⟨ht, e0, e1, e2⟩ := coords3 t
  simp only [cond3, e0, e1, e2]; word_cmp
theorem cond4_iff (t : Fin cfg0.N) : cond4 (grid0.coords t) ↔ t.val % 32 = 31 := by
  obtain ⟨ht, e0, e1, e2⟩ := coords3 t
  simp only [cond4, k0_cond5, e0, e1, e2]; word_cmp

/-- The output window is idle except at the last point of each volume. -/
theorem idle_4 (t : Fin cfg0.N) (h : t.val % 64 ≠ 63) : cfg0.idle 4 (grid0.coords t) = true :=
  (by decide +kernel : ∀ t : Fin cfg0.N, t.val % 64 ≠ 63 → cfg0.idle 4 (grid0.coords t) = true) t h
theorem live_4 (t : Fin cfg0.N) (h : t.val % 64 = 63) : cfg0.idle 4 (grid0.coords t) = false :=
  (by decide +kernel : ∀ t : Fin cfg0.N, t.val % 64 = 63 → cfg0.idle 4 (grid0.coords t) = false) t h
theorem unflushed_4 (t : Fin cfg0.N) (h : t.val % 64 ≠ 63) : (cfg0.win 4).flush t = false :=
  Bool.eq_false_iff.mpr fun e => h ((flush0_4 t).mp e)

/-! ## The body at a point -/

/-- What the body is called with, window by window. -/
def before (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it leaves. -/
def leaves (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t)

/-- The seven buffers the body works on, at given contents. -/
def seven (c : Dev nD) (t : Fin cfg0.N) (xi : Vec F S1x1x128 .f32) (xm : Vec F S4 .f32) (xt : Vec F S4x64x64 .f32) : sProp 𝕄 :=
  iprop(owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare xi ∗ owns (c : Thread nD τ) numRef fullShare xm ∗ owns (c : Thread nD τ) tabRef fullShare xt)

/-- The same buffers and something more. -/
def sevenAnd (c : Dev nD) (t : Fin cfg0.N) (xi : Vec F S1x1x128 .f32) (xm : Vec F S4 .f32) (xt : Vec F S4x64x64 .f32) (R : sProp 𝕄) : sProp 𝕄 :=
  iprop(owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare xi ∗ owns (c : Thread nD τ) numRef fullShare xm ∗ owns (c : Thread nD τ) tabRef fullShare xt ∗ R)

set_option maxHeartbeats 2000000 in
/-- The body at a point, from its triple on the seven buffers: the scratch contents go from `Holds` to `Holds`, and the
    output's buffer is left as the schedule asks. -/
theorem body_of (c : Dev nD) (t : Fin cfg0.N) (o : Vec F S1x1x128 .f32 → Vec F S4 .f32 → Vec F S4x64x64 .f32 → Vec F S1x1x128 .f32)
    (f : Vec F S4 .f32 → Vec F S4 .f32) (g : Vec F S4 .f32 → Vec F S4x64x64 .f32 → Vec F S4x64x64 .f32)
    (hrun : ∀ xi xm xt (K : PUnit → sProp 𝕄), sevenAnd m c t xi xm xt iprop(seven m c t (o xi xm xt) (f xm) (g xm xt) -∗ K ⟨⟩)
      ⊢ wp frame (wpE (defs₀ (F := F)) Variants.none c none) Set.univ (bodyAt0 t) K)
    (hH : ∀ xm xt, Holds m c t.val xm xt → Holds m c (t.val + 1) (f xm) (g xm xt))
    (hL : ∀ xm xt d, Holds m c t.val xm xt → owns (c : Thread nD τ) (st0_4 t) fullShare (o ((dats m 0 c).before 4 t d) xm xt) ⊢ (dats m 0 c).leavesExact 4 t) :
    before m c t ⊢ wp frame (wpE (defs₀ (F := F)) Variants.none c none) Set.univ (bodyAt0 t) (fun _ => leaves m c t) := by
  unfold before leaves
  simp only [before_0, before_1, before_2, before_3]
  rw [show (dats m 0 c).leavesExact 0 t = owns (c : Thread nD τ) (st0_0 t) fullShare ((dats m 0 c).after 0 t) from rfl, after_0,
    show (dats m 0 c).leavesExact 1 t = owns (c : Thread nD τ) (st0_1 t) fullShare ((dats m 0 c).after 1 t) from rfl, after_1,
    show (dats m 0 c).leavesExact 2 t = owns (c : Thread nD τ) (st0_2 t) fullShare ((dats m 0 c).after 2 t) from rfl, after_2,
    show (dats m 0 c).leavesExact 3 t = owns (c : Thread nD τ) (st0_3 t) fullShare ((dats m 0 c).after 3 t) from rfl, after_3,
    show (dats m 0 c).owesAt () t.succ = (dats m 0 c).owesAt () t.castSucc from rfl,
    show (dats m 0 c).Φ t.succ = Inv m c (t.val + 1) from rfl, show (dats m 0 c).Φ t.castSucc = Inv m c t.val from rfl]
  unfold Inv
  iintro ⟨⟨⟨%xm, %xt, %hh, HS1, HS0⟩, Hg⟩, Ho, ⟨%d0, H0⟩, ⟨%d1, H1⟩, ⟨%d2, H2⟩, ⟨%d3, H3⟩, ⟨%d4, H4⟩⟩
  iapply hrun ((dats m 0 c).before 4 t d4) xm xt
  unfold sevenAnd seven
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · isplitl [HS0 HS1]
    · iexists _; iexists _
      isplitr; · ipureintro; exact hH xm xt hh
      isplitl [HS1]; · iexact HS1
      iexact HS0
    iexact Hg
  isplitl [Ho]; · iexact Ho
  isplitl [H0]; · iexact H0
  isplitl [H1]; · iexact H1
  isplitl [H2]; · iexact H2
  isplitl [H3]; · iexact H3
  iapply hL xm xt d4 hh
  iexact H4

/-- An idle output buffer may be left at anything. -/
theorem idle_leaves (c : Dev nD) (t : Fin cfg0.N) (h : t.val % 64 ≠ 63) (d) :
    owns (c : Thread nD τ) (st0_4 t) fullShare ((dats m 0 c).before 4 t d) ⊢ (dats m 0 c).leavesExact 4 t := by
  rw [Dat.leavesExact_idle (dats m 0 c) 4 t (idle_4 t h) (unflushed_4 t h)]
  iintro H
  iexists _; iexact H

set_option maxHeartbeats 1000000 in
/-- The body at any point, by the five cases. -/
theorem body_sound (c : Dev nD) (t : Fin cfg0.N) :
    before m c t ⊢ wp frame (wpE (defs₀ (F := F)) Variants.none c none) Set.univ (bodyAt0 t) (fun _ => leaves m c t) := by
  have hN : t.val < 128 := Nat.lt_of_lt_of_eq t.isLt N_0
  by_cases h1 : t.val / 32 % 2 = 0
  · have h2 : ¬cond2 (grid0.coords t) := fun h => by have := (cond2_iff t).mp h; omega
    by_cases h0 : t.val % 64 = 0
    · exact body_of m c t (fun xi _ _ => xi) (fun _ => mmStep mmInit (fblk m c t) (wblk m c t)) (fun _ xt => xt)
        (fun xi xm xt K => body_A c _ _ _ _ _ _ _ _ _ _ _ _ _ _ _ ((cond0_iff t).mpr h0) ((cond1_iff t).mpr h1) h2 _ _ _ _ xi xm xt _ K)
        (fun xm xt _ => ⟨fun _ => (mmAt_first m c t h0).symm, fun h => by omega⟩) (fun xm xt d _ => idle_leaves m c t (by omega) d)
    · exact body_of m c t (fun xi _ _ => xi) (fun xm => mmStep xm (fblk m c t) (wblk m c t)) (fun _ xt => xt)
        (fun xi xm xt K => body_B c _ _ _ _ _ _ _ _ _ _ _ _ _ _ _ (fun h => h0 ((cond0_iff t).mp h)) ((cond1_iff t).mpr h1) h2 _ _ _ _ xi xm xt _ K)
        (fun xm xt hh => ⟨fun _ => by rw [mmAt_next m c t h0 h1, hh.1 h0], fun h => by omega⟩) (fun xm xt d _ => idle_leaves m c t (by omega) d)
  · have h2 : t.val / 32 % 2 = 1 := by omega
    have n0 : ¬cond0 (grid0.coords t) := fun h => by have := (cond0_iff t).mp h; omega
    have n1 : ¬cond1 (grid0.coords t) := fun h => h1 ((cond1_iff t).mp h)
    by_cases h3 : t.val % 32 = 0
    · exact body_of m c t (fun xi _ _ => xi) (fun xm => xm) (fun xm xt => count xm (fblk m c t) (wblk m c t) noCount)
        (fun xi xm xt K => body_C c _ _ _ _ _ _ _ _ _ _ _ _ _ _ _ n0 n1 ((cond2_iff t).mpr h2) ((cond3_iff t).mpr h3) (fun h => by have := (cond4_iff t).mp h; omega) _ _ _ _ xi xm xt _ K)
        (fun xm xt hh => ⟨fun _ => (hh.1 (by omega)).trans (mmAt_keep m c t h2).symm, fun _ => by rw [tabAt_first m c t h2 h3, hh.1 (by omega)]⟩)
        (fun xm xt d _ => idle_leaves m c t (by omega) d)
    · have n3 : ¬cond3 (grid0.coords t) := fun h => h3 ((cond3_iff t).mp h)
      have step : ∀ xm xt, Holds m c t.val xm xt → count xm (fblk m c t) (wblk m c t) xt = tabAt m c (t.val + 1) := fun xm xt hh => by
        rw [tabAt_next m c t h2 h3, hh.1 (by omega), hh.2 (by omega)]
      have hH : ∀ xm xt, Holds m c t.val xm xt → Holds m c (t.val + 1) xm (count xm (fblk m c t) (wblk m c t) xt) := fun xm xt hh =>
        ⟨fun _ => (hh.1 (by omega)).trans (mmAt_keep m c t h2).symm, fun _ => step xm xt hh⟩
      by_cases h4 : t.val % 32 = 31
      · exact body_of m c t (fun xi xm xt => finish (iblk m c 0 t) (iblk m c 1 t) (count xm (fblk m c t) (wblk m c t) xt)) (fun xm => xm)
          (fun xm xt => count xm (fblk m c t) (wblk m c t) xt)
          (fun xi xm xt K => body_E c _ _ _ _ _ _ _ _ _ _ _ _ _ _ _ n0 n1 ((cond2_iff t).mpr h2) n3 ((cond4_iff t).mpr h4) _ _ _ _ xi xm xt _ K)
          hH (fun xm xt d hh => by
            rw [step xm xt hh, show (dats m 0 c).leavesExact 4 t = owns (c : Thread nD τ) (st0_4 t) fullShare ((dats m 0 c).after 4 t) from by
              unfold Dat.leavesExact; rw [live_4 t (by omega)], after_4])
      · exact body_of m c t (fun xi _ _ => xi) (fun xm => xm) (fun xm xt => count xm (fblk m c t) (wblk m c t) xt)
          (fun xi xm xt K => body_D c _ _ _ _ _ _ _ _ _ _ _ _ _ _ _ n0 n1 ((cond2_iff t).mpr h2) n3 (fun h => h4 ((cond4_iff t).mp h)) _ _ _ _ xi xm xt _ K)
          hH (fun xm xt d _ => idle_leaves m c t (by omega) d)

/-! ## The launch -/

/-- The body table's entry is the body at the point. -/
theorem entry_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, entry_eq]
  exact triple_restated (body_sound m c t) rfl .rfl fun _ => .rfl

/-- Before the first point nothing is known of the scratch buffers. -/
theorem start (c : Dev nD) : Pipeline.ΦA spec0 c ⊢ (dats m 0 c).Φ 0 := by
  rw [show (dats m 0 c).Φ 0 = Inv m c 0 from rfl, given_eq]
  unfold Inv
  iintro ⟨⟨⟨%xt, HS1⟩, ⟨%xm, HS0⟩⟩, Hg⟩
  isplitl [HS0 HS1]
  · iexists xm; iexists xt
    isplitr; · ipureintro; exact ⟨fun h => absurd rfl h, fun h => by omega⟩
    isplitl [HS1]; · iexact HS1
    iexact HS0
  iexact Hg

/-- After the last point what is known is forgotten. -/
theorem stop (c : Dev nD) : (dats m 0 c).Φ (Fin.last cfg0.N) ⊢ Pipeline.ΦA spec0 c := by
  rw [show (dats m 0 c).Φ (Fin.last cfg0.N) = Inv m c cfg0.N from rfl, given_eq]
  unfold Inv
  iintro ⟨⟨%xm, %xt, %hh, HS1, HS0⟩, Hg⟩
  isplitl [HS0 HS1]
  · isplitl [HS1]; · iexists _; iexact HS1
    iexists _; iexact HS0
  iexact Hg

set_option backward.isDefEq.respectTransparency.types false in
set_option maxHeartbeats 800000 in
/-- The whole program runs to its end, the arrays at what the proof data say, every counter at zero. -/
theorem run_all : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hin := start m) (hout := stop m)

/-- The whole program runs to its end, leaves the arguments unchanged and every counter at zero. -/
theorem frame_and_counters : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).1 2).trans (((dats m 0 c).arrAt_in 2 rfl _).trans ((dats_A m c 2).trans (V_main_arg2 m c))),
      ((h.1 c).1 3).trans (((dats m 0 c).arrAt_in 3 rfl _).trans ((dats_A m c 3).trans (V_main_arg3 m c)))⟩, h.2⟩) (run_all m ρ)

end Cert.KernelIdeal.Gen

end
-- ==== Proof.Value.Level.lean ====
module

public import Idealize.ShloMosaic.PureOps.Ideal
public import Idealize.ShloMosaic.PureOps.Vector

@[expose] public section

noncomputable section

namespace Cert.Value

open Idealize.ShloMosaic

/-! ## The literals -/

theorem one_word : Ideal.ofBits .f32 0x3F800000#32 = 1 := by
  simp [Ideal.ofBits, Ideal.ieee]
  rw [← EReal.coe_mul, ← EReal.coe_one]; norm_num
theorem top_bin_word : Ideal.ofBits .f32 0x427C0000#32 = ((63 : ℝ) : EReal) := by
  simp [Ideal.ofBits, Ideal.ieee]
  rw [← EReal.coe_mul]; norm_num
theorem zero_word : Ideal.ofBits .f32 0x00000000#32 = 0 := by
  simp [Ideal.ofBits, Ideal.ieee]
theorem top_word : Ideal.ofBits .f32 0x7F800000#32 = ⊤ := by
  simp [Ideal.ofBits, Ideal.ieee]
theorem bot_word : Ideal.ofBits .f32 0xFF800000#32 = ⊥ := by
  simp [Ideal.ofBits, Ideal.ieee]
theorem one_word8 : Ideal.ofBits .fp8e4m3 0x38#8 = 1 := by
  simp [Ideal.ofBits, Ideal.e4m3fn]
  rw [← EReal.coe_mul, ← EReal.coe_one]; norm_num
theorem zero_word8 : Ideal.ofBits .fp8e4m3 0x00#8 = 0 := by
  simp [Ideal.ofBits, Ideal.e4m3fn]

/-- The small constant of the problem. -/
abbrev eps : EReal := Ideal.ofBits .f32 0x2EDBE6FF#32

/-- The small constant is a positive real. -/
theorem eps_real : ∃ e : ℝ, 0 < e ∧ eps = (e : EReal) := by
  simp [eps, Ideal.ofBits, Ideal.ieee]
  exact ⟨14411519 * (2 ^ 57)⁻¹, by positivity, (EReal.coe_mul _ _).symm⟩

/-- A nonnegative sum with the small constant added is positive. -/
theorem add_eps_pos {x : EReal} (h : 0 ≤ x) : 0 < x + eps := by
  obtain ⟨e, he, e'⟩ := eps_real
  rw [e']
  exact lt_of_lt_of_le (by exact_mod_cast he) (le_add_of_nonneg_left h)

/-- Greatest minus least value plus the small constant is never zero. -/
theorem range_ne {lo hi : EReal} (h : lo ≤ hi) : hi - lo + eps ≠ 0 := by
  obtain ⟨e, he, e'⟩ := eps_real
  rw [e']
  induction lo with
  | bot =>
    induction hi with
    | bot => simp
    | top => simp
    | coe b => simp
  | top =>
    obtain rfl : hi = ⊤ := top_le_iff.mp h
    simp
  | coe a =>
    induction hi with
    | bot => simp at h
    | top => simp
    | coe b =>
      have hab : a ≤ b := by exact_mod_cast h
      have : b - a + e ≠ 0 := by linarith
      exact_mod_cast this

/-- Division by a number that is not zero, as a product with the quotient of one. -/
theorem div_eq_mul {x y : EReal} (h : y ≠ 0) : Ideal.div x y = x * Ideal.div 1 y := by
  simp [Ideal.div, h]

/-! ## The bin of a scaled value -/

/-- The bin number of a scaled value: its whole part, kept between 0 and 63. -/
def level : EReal → ℕ
  | ⊥ => 0
  | ⊤ => 63
  | (r : ℝ) => (max 0 (min 63 ⌊r⌋)).toNat

theorem level_lt (y : EReal) : level y < 64 := by
  induction y with
  | bot => exact (by decide : 0 < 64)
  | top => exact (by decide : 63 < 64)
  | coe r => change (max 0 (min 63 ⌊r⌋)).toNat < 64; omega

/-- A whole number clamped as a signed word. -/
theorem clamp_word (w : ℤ) (h : -2147483648 ≤ w) (h' : w ≤ 2147483647) :
    IntOp.minsi 63#32 (IntOp.maxsi 0#32 (BitVec.ofInt 32 w)) = BitVec.ofNat 32 (max 0 (min 63 w)).toNat := by
  have e : (BitVec.ofInt 32 w).toInt = w := by
    rw [BitVec.toInt_ofInt]; exact Int.bmod_eq_of_le (by omega) (by omega)
  have e0 : (0#32 : BitVec 32).toInt = 0 := rfl
  have e63 : (63#32 : BitVec 32).toInt = 63 := rfl
  unfold IntOp.maxsi IntOp.minsi
  simp only [BitVec.slt, e, e0, e63]
  split <;> rename_i h1 <;> simp only [decide_eq_true_eq] at h1 <;> split <;> rename_i h2 <;> simp only [decide_eq_true_eq, e, e0] at h2
  all_goals try omega
  all_goals apply BitVec.eq_of_toNat_eq <;> simp only [BitVec.toNat_ofNat, BitVec.toNat_ofInt] <;> omega

/-- The truncation to a word, clamped there, is the bin number. -/
theorem word_level (y : EReal) : IntOp.minsi 63#32 (IntOp.maxsi 0#32 (Ideal.fptosi 32 y)) = BitVec.ofNat 32 (level y) := by
  induction y with
  | bot => rfl
  | top => rfl
  | coe r =>
    change IntOp.minsi 63#32 (IntOp.maxsi 0#32 (BitVec.ofInt 32 (max (-(2147483648 : ℕ) : ℤ) (min ((2147483648 : ℕ) - 1 : ℤ) (if 0 ≤ r then ⌊r⌋ else ⌈r⌉))))) = _
    rw [clamp_word _ (by omega) (by omega)]
    congr 1
    change _ = (max 0 (min 63 ⌊r⌋)).toNat
    split
    · omega
    · next h =>
      have h1 : ⌈r⌉ ≤ 0 := Int.ceil_le.mpr (by push_cast; linarith)
      have h2 : ⌊r⌋ ≤ 0 := (Int.floor_le_ceil r).trans h1
      omega

/-- The floor clamped as a number, then cast to a byte, is the bin number. -/
theorem byte_level (y : EReal) :
    Ideal.fptosi 8 (min ((63 : ℝ) : EReal) (max 0 (Ideal.liftRound Int.floor y))) = BitVec.ofNat 8 (level y) := by
  induction y with
  | bot =>
    have : min ((63 : ℝ) : EReal) (max 0 (Ideal.liftRound Int.floor ⊥)) = ((0 : ℝ) : EReal) := by
      rw [Ideal.liftRound_bot, max_eq_left bot_le]; exact min_eq_right (by exact_mod_cast (by norm_num : (0 : ℝ) ≤ 63))
    rw [this, Ideal.fptosi, Ideal.toIntClamped_coe]; simp; rfl
  | top =>
    have : min ((63 : ℝ) : EReal) (max 0 (Ideal.liftRound Int.floor ⊤)) = ((63 : ℝ) : EReal) := by
      rw [Ideal.liftRound_top, max_eq_right le_top]; exact min_eq_left le_top
    rw [this, Ideal.fptosi, Ideal.toIntClamped_coe]; simp; rfl
  | coe r =>
    have : min ((63 : ℝ) : EReal) (max 0 (Ideal.liftRound Int.floor (r : EReal))) = (((max 0 (min 63 ⌊r⌋) : ℤ) : ℝ) : EReal) := by
      rw [Ideal.liftRound_coe, max_min_distrib_left, max_eq_right (by decide : (0 : ℤ) ≤ 63), Int.cast_min, EReal.coe_strictMono.monotone.map_min, Int.cast_max, EReal.coe_strictMono.monotone.map_max]
      simp [min_comm]
    rw [this, Ideal.fptosi, Ideal.toIntClamped_coe, if_pos (by exact_mod_cast le_max_left _ _), Int.floor_intCast]
    change BitVec.ofInt 8 (max (-(128 : ℕ) : ℤ) (min ((128 : ℕ) - 1 : ℤ) (max 0 (min 63 ⌊r⌋)))) = BitVec.ofNat 8 (max 0 (min 63 ⌊r⌋)).toNat
    generalize ⌊r⌋ = z
    apply BitVec.eq_of_toNat_eq
    simp only [BitVec.toNat_ofNat, BitVec.toNat_ofInt]
    omega

end Cert.Value

end
-- ==== Proof.Value.Spec.lean ====
module

public import proofs.«01_k».proof.Proof.Value.Level

@[expose] public section

noncomputable section

open scoped BigOperators

namespace Cert.Value

open Idealize.ShloMosaic

/-- The place of a voxel in a volume: plane, row, lane. -/
abbrev Vox := Fin 192 × Fin 224 × Fin 192

/-- The bin of a value between the least and the greatest one. -/
def binOf (lo hi x : EReal) : ℕ := level ((x - lo) * Ideal.div 1 (hi - lo + eps) * ((63 : ℝ) : EReal))

theorem binOf_lt (lo hi x : EReal) : binOf lo hi x < 64 := level_lt _

/-- The least value of a volume. -/
def least (f : Vox → EReal) : EReal := Finset.univ.inf f
/-- The greatest value of a volume. -/
def greatest (f : Vox → EReal) : EReal := Finset.univ.sup f

theorem least_le_greatest (f : Vox → EReal) : least f ≤ greatest f :=
  (Finset.inf_le (Finset.mem_univ (0, 0, 0))).trans (Finset.le_sup (f := f) (Finset.mem_univ (0, 0, 0)))

/-- One when a voxel's two bins are `a` and `b`, else zero. -/
def hit (p q : ℕ) (a b : Fin 64) : EReal := if p = a.val ∧ q = b.val then 1 else 0

/-- How many voxels of two volumes fall in bins `a` and `b`. -/
def cell (f w : Vox → EReal) (a b : Fin 64) : EReal :=
  ∑ v : Vox, hit (binOf (least f) (greatest f) (f v)) (binOf (least w) (greatest w) (w v)) a b

/-- The part of all voxels that a cell holds. -/
def joint (n : Fin 64 → Fin 64 → EReal) (a b : Fin 64) : EReal := n a b * Ideal.div 1 ((∑ a, ∑ b, n a b) + eps)
/-- The entropy of a list of parts. -/
def entropy (p : Fin 64 → EReal) : EReal := -(∑ a, p a * Ideal.log (p a + eps))
/-- The entropy of a table of parts. -/
def entropy2 (p : Fin 64 → Fin 64 → EReal) : EReal := -(∑ a, ∑ b, p a b * Ideal.log (p a b + eps))

/-- The normalised mutual information of a table of parts. -/
def shared (p : Fin 64 → Fin 64 → EReal) : EReal :=
  Ideal.div (Ideal.ofBits .f32 0x40000000#32 * (entropy (fun a => ∑ b, p a b) + entropy (fun b => ∑ a, p a b) - entropy2 p))
    (entropy (fun a => ∑ b, p a b) + entropy (fun b => ∑ a, p a b) + eps)

/-- The loss of both volumes of a batch and of the two affine rows. -/
def loss (p t : Fin 2 → Fin 12 → EReal) (f w : Fin 2 → Vox → EReal) : EReal :=
  Ideal.div (∑ b, ∑ k, (p b k - t b k) * (p b k - t b k)) (Ideal.ofBits .f32 0x41C00000#32)
    + -(Ideal.div (∑ b, shared (joint (cell (f b) (w b)))) (Ideal.ofBits .f32 0x40000000#32))

end Cert.Value

end
-- ==== Proof.Value.Payload.lean ====
module

public import proofs.«01_k».proof.Proof.Ideal.Steps
public import proofs.«01_k».proof.Proof.Value.Spec
public import Idealize.ShloMosaic.Lib.Pointwise

@[expose] public section

set_option maxRecDepth 16384

noncomputable section

open scoped BigOperators

namespace Cert.Value

open Idealize.ShloMosaic Cert.KernelIdeal Cert.KernelIdeal.Gen

/-! ## The range update -/

/-- Every index of the block that is reduced comes from a plane, a row and a lane. -/
theorem all_drop (i : S1x6x224x192.Idx) (j : S1.Idx) : reduces_S1x6x224x192_S1.drop i = j :=
  funext fun a => Fin.ext (by
    have h := (reduces_S1x6x224x192_S1.drop i a).isLt
    have h' := (j a).isLt
    match a with
    | ⟨0, _⟩ => change _ < 1 at h; change _ < 1 at h'; omega)

theorem pay3_eq (x : Vec Ideal S1x1x6x224x192 .f32) (a : EReal) :
    k0_pay3 (F := Ideal) x a = min a (Finset.fold min (Ideal.ofBits .f32 0x7F800000#32)
      (fun i : S1x6x224x192.Idx => x (ix5 0 0 (i 1) (i 2) (i 3))) {i | reduces_S1x6x224x192_S1.drop i = Idealize.ShloMosaic.ix1 0}) := by
  pointwise [k0_pay3, k0_pay1]

theorem le_pay3 (x : Vec Ideal S1x1x6x224x192 .f32) (a z : EReal) :
    z ≤ k0_pay3 (F := Ideal) x a ↔ z ≤ a ∧ ∀ d h l, z ≤ x (ix5 0 0 d h l) := by
  rw [pay3_eq, le_min_iff, Finset.le_fold_min, top_word]
  refine and_congr_right fun _ => ⟨fun h d r l => ?_, fun h => ⟨le_top, fun i _ => h _ _ _⟩⟩
  exact h.2 (Idealize.ShloMosaic.ix4 0 d r l) (Finset.mem_filter.mpr ⟨Finset.mem_univ _, all_drop _ _⟩)

theorem pay5_eq (x : Vec Ideal S1x1x6x224x192 .f32) (a : EReal) :
    k0_pay5 (F := Ideal) x a = min a (Finset.fold min (Ideal.ofBits .f32 0x7F800000#32)
      (fun i : S1x6x224x192.Idx => x (ix5 0 0 (i 1) (i 2) (i 3))) {i | reduces_S1x6x224x192_S1.drop i = Idealize.ShloMosaic.ix1 0}) := by
  pointwise [k0_pay5, k0_pay2]

theorem le_pay5 (x : Vec Ideal S1x1x6x224x192 .f32) (a z : EReal) :
    z ≤ k0_pay5 (F := Ideal) x a ↔ z ≤ a ∧ ∀ d h l, z ≤ x (ix5 0 0 d h l) := by
  rw [pay5_eq, le_min_iff, Finset.le_fold_min, top_word]
  refine and_congr_right fun _ => ⟨fun h d r l => ?_, fun h => ⟨le_top, fun i _ => h _ _ _⟩⟩
  exact h.2 (Idealize.ShloMosaic.ix4 0 d r l) (Finset.mem_filter.mpr ⟨Finset.mem_univ _, all_drop _ _⟩)

theorem pay4_eq (x : Vec Ideal S1x1x6x224x192 .f32) (a : EReal) :
    k0_pay4 (F := Ideal) x a = max a (Finset.fold max (Ideal.ofBits .f32 0xFF800000#32)
      (fun i : S1x6x224x192.Idx => x (ix5 0 0 (i 1) (i 2) (i 3))) {i | reduces_S1x6x224x192_S1.drop i = Idealize.ShloMosaic.ix1 0}) := by
  pointwise [k0_pay4, k0_pay1]

theorem pay4_le (x : Vec Ideal S1x1x6x224x192 .f32) (a z : EReal) :
    k0_pay4 (F := Ideal) x a ≤ z ↔ a ≤ z ∧ ∀ d h l, x (ix5 0 0 d h l) ≤ z := by
  rw [pay4_eq, max_le_iff, Finset.fold_max_le, bot_word]
  refine and_congr_right fun _ => ⟨fun h d r l => ?_, fun h => ⟨bot_le, fun i _ => h _ _ _⟩⟩
  exact h.2 (Idealize.ShloMosaic.ix4 0 d r l) (Finset.mem_filter.mpr ⟨Finset.mem_univ _, all_drop _ _⟩)

theorem pay6_eq (x : Vec Ideal S1x1x6x224x192 .f32) (a : EReal) :
    k0_pay6 (F := Ideal) x a = max a (Finset.fold max (Ideal.ofBits .f32 0xFF800000#32)
      (fun i : S1x6x224x192.Idx => x (ix5 0 0 (i 1) (i 2) (i 3))) {i | reduces_S1x6x224x192_S1.drop i = Idealize.ShloMosaic.ix1 0}) := by
  pointwise [k0_pay6, k0_pay2]

theorem pay6_le (x : Vec Ideal S1x1x6x224x192 .f32) (a z : EReal) :
    k0_pay6 (F := Ideal) x a ≤ z ↔ a ≤ z ∧ ∀ d h l, x (ix5 0 0 d h l) ≤ z := by
  rw [pay6_eq, max_le_iff, Finset.fold_max_le, bot_word]
  refine and_congr_right fun _ => ⟨fun h d r l => ?_, fun h => ⟨bot_le, fun i _ => h _ _ _⟩⟩
  exact h.2 (Idealize.ShloMosaic.ix4 0 d r l) (Finset.mem_filter.mpr ⟨Finset.mem_univ _, all_drop _ _⟩)

/-! ## Bin numbers and counting -/

/-- The scale is one over the range. -/
theorem invRange_eq (lo hi : EReal) : invRange (F := Ideal) lo hi = Ideal.div 1 (hi - lo + eps) := by
  unfold invRange
  exact congrArg (fun o => Ideal.div o (hi - lo + eps)) one_word

/-- A byte of bin numbers is the bin of the voxel. -/
theorem binsOf_apply (lo hi : EReal) (x : Vec Ideal S1x1x1x32x192 .f32) (j : Fin 32) (l : Fin 192) :
    binsOf (F := Ideal) lo (invRange lo hi) x (ix2 j l) = BitVec.ofNat 8 (binOf lo hi (x (ix5 0 0 0 j l))) := by
  rw [invRange_eq]
  pointwise [binsOf]
  rw [top_bin_word]
  exact byte_level _

/-- One entry of a one-hot row. -/
theorem hot_byte (a : Fin 64) (n : ℕ) (h : n < 64) :
    Scalar.select (IntOp.cmpi .eq (BitVec.setWidth 8 (BitVec.ofNat 32 a.val)) (BitVec.ofNat 8 n)) (Ideal.ofBits .fp8e4m3 56#8) (Ideal.ofBits .fp8e4m3 0#8)
      = if n = a.val then 1 else 0 := by
  have ha := a.isLt
  rw [one_word8, zero_word8]
  have e : (BitVec.setWidth 8 (BitVec.ofNat 32 a.val) = BitVec.ofNat 8 n) ↔ n = a.val := by
    constructor
    · intro h'
      have := congrArg BitVec.toNat h'
      simp only [BitVec.toNat_setWidth, BitVec.toNat_ofNat] at this
      omega
    · rintro rfl
      apply BitVec.eq_of_toNat_eq
      simp only [BitVec.toNat_setWidth, BitVec.toNat_ofNat]
      omega
  unfold Scalar.select IntOp.cmpi
  by_cases hn : n = a.val
  · simp [e.mpr hn, hn]
  · simp only [hn, if_false]
    rw [show (BitVec.setWidth 8 (BitVec.ofNat 32 a.val) == BitVec.ofNat 8 n) = false from beq_eq_false_iff_ne.mpr (mt e.mp hn)]
    rfl

/-- Two one-hot entries multiplied. -/
theorem hot_mul (p q : ℕ) (a b : Fin 64) : ((if p = a.val then 1 else 0 : EReal) * if q = b.val then 1 else 0) = hit p q a b := by
  unfold hit
  by_cases hp : p = a.val <;> by_cases hq : q = b.val <;> simp [hp, hq]

/-- A row counted in adds one for each of its voxels in the two bins. -/
theorem rowAdd_apply (P Q : IVec S32x192 8) (p q : Fin 32 → Fin 192 → ℕ) (hp : ∀ j l, p j l < 64 ∧ P (ix2 j l) = BitVec.ofNat 8 (p j l))
    (hq : ∀ j l, q j l < 64 ∧ Q (ix2 j l) = BitVec.ofNat 8 (q j l)) (j : Fin 32) (A : Vec Ideal S64x64 .f32) (a b : Fin 64) :
    rowAdd (F := Ideal) P Q j A (ix2 a b) = A (ix2 a b) + ∑ l, hit (p j l) (q j l) a b := by
  pointwise [rowAdd, hotRow, binRows]
  rw [add_comm]
  refine congrArg (A (ix2 a b) + ·) (Finset.sum_congr rfl fun l _ => ?_)
  rw [(hp j l).2, (hq j l).2, hot_byte a _ (hp j l).1, hot_byte b _ (hq j l).1, hot_mul]

end Cert.Value

end
-- ==== Proof.Value.Tables.lean ====
module

public import proofs.«01_k».proof.Proof.Value.Payload

@[expose] public section

set_option maxRecDepth 16384

noncomputable section

open scoped BigOperators

namespace Cert.Value

open Idealize.ShloMosaic Cert.KernelIdeal Cert.KernelIdeal.Gen

/-- The four tables added, the way the kernel adds them at the end. -/
def tot (T : Vec Ideal S4x64x64 .f32) (a b : Fin 64) : EReal :=
  (T (ix3 0 a b) + T (ix3 1 a b)) + (T (ix3 2 a b) + T (ix3 3 a b))

/-! ## One trip: 32 rows -/

section Trip

variable (P Q : IVec S32x192 8) (T : Vec Ideal S4x64x64 .f32)

/-- Table `r` as a plain table. -/
def plane (r : Fin 4) : Vec Ideal S64x64 .f32 := fun i => T (ix3 r (i 0) (i 1))

/-- The tables after a trip, index by index. -/
def tripAt (y : S4x64x64.Idx) : EReal := rows8 (F := Ideal) P Q (y 0) (plane T (y 0)) (ix2 (y 1) (y 2))

/-- A table and the same table with a leading axis. -/
theorem flat_at (X : Vec Ideal S1x64x64 .f32) (a b : Fin 64) : shapeCast S64x64 X shapeCasts_S1x64x64_S64x64 (ix2 a b) = X (ix3 0 a b) := by
  pointwise []

theorem lift_at (X : Vec Ideal S64x64 .f32) (o : Fin 1) (a b : Fin 64) : shapeCast S1x64x64 X shapeCasts_S64x64_S1x64x64 (ix3 o a b) = X (ix2 a b) := by
  pointwise []

/-- Where a table of the four lies. -/
theorem emb_at (r : Fin 4) (inb : ∀ a, ![r.val, 0, 0] a + S1x64x64.size a ≤ S4x64x64.size a) (x : S1x64x64.Idx) :
    (Rect.unit (s := S4x64x64) ![r.val, 0, 0] S1x64x64.size inb).emb x = ix3 r (x 1) (x 2) := by
  have h0 : (x 0).val = 0 := by have h := (x 0).isLt; change _ < 1 at h; omega
  funext a
  apply Fin.ext
  match a with
  | ⟨0, _⟩ => simp [Rect.unit, Rect.emb, ix3]; exact h0
  | ⟨1, _⟩ => simp [Rect.unit, Rect.emb, ix3]
  | ⟨2, _⟩ => simp [Rect.unit, Rect.emb, ix3]

/-- Table `r` cut out of the four. -/
theorem cut_plane (r : Fin 4) (inb : ∀ a, ![r.val, 0, 0] a + S1x64x64.size a ≤ S4x64x64.size a) :
    shapeCast S64x64 (View.ld (S := S4x64x64) T (Rect.unit (s := S4x64x64) ![r.val, 0, 0] S1x64x64.size inb)) shapeCasts_S1x64x64_S64x64 = plane T r := by
  funext i
  refine (congrArg _ (ValueIdx.eq_ix2 i)).trans ((flat_at _ (i 0) (i 1)).trans ?_)
  exact congrArg T (emb_at r inb (ix3 0 (i 0) (i 1)))

/-- What a trip stores into table `r`. -/
theorem piece_at (r : Fin 4) (inb : ∀ a, ![r.val, 0, 0] a + S1x64x64.size a ≤ S4x64x64.size a) (x : S1x64x64.Idx) :
    shapeCast S1x64x64 (rows8 (F := Ideal) P Q r (shapeCast S64x64 (View.ld (S := S4x64x64) T
      (Rect.unit (s := S4x64x64) ![r.val, 0, 0] S1x64x64.size inb)) shapeCasts_S1x64x64_S64x64)) shapeCasts_S64x64_S1x64x64 x
      = tripAt P Q T ((Rect.unit (s := S4x64x64) ![r.val, 0, 0] S1x64x64.size inb).emb x) := by
  rw [cut_plane, emb_at]
  exact (congrArg _ (ValueIdx.eq_ix3 x)).trans (lift_at _ (x 0) (x 1) (x 2))

theorem hist_at (y : S4x64x64.Idx) : hist (F := Ideal) P Q T y = tripAt P Q T y := by
  refine View.canon_apply_of_pieces (tripAt P Q T) _ (fun p hp => ?_) y (tripList_cover P Q T y)
  simp only [tripList, List.mem_cons, List.not_mem_nil, or_false] at hp
  obtain rfl | rfl | rfl | rfl := hp
  · exact piece_at P Q T 3 inb_S4x64x64_S1x64x64_3_0_0
  · exact piece_at P Q T 2 inb_S4x64x64_S1x64x64_2_0_0
  · exact piece_at P Q T 1 inb_S4x64x64_S1x64x64_1_0_0
  · exact piece_at P Q T 0 inb_S4x64x64_S1x64x64_0_0_0

end Trip

/-- 32 numbers added up in the order of the trip: every fourth into the same table. -/
theorem by_fours {M : Type} [AddCommMonoid M] (t0 t1 t2 t3 : M) (g : Fin 32 → M) :
    (t0 + g 0 + g 4 + g 8 + g 12 + g 16 + g 20 + g 24 + g 28 + (t1 + g 1 + g 5 + g 9 + g 13 + g 17 + g 21 + g 25 + g 29))
      + (t2 + g 2 + g 6 + g 10 + g 14 + g 18 + g 22 + g 26 + g 30 + (t3 + g 3 + g 7 + g 11 + g 15 + g 19 + g 23 + g 27 + g 31))
      = (t0 + t1) + (t2 + t3) + ∑ j, g j := by
  simp only [Fin.sum_univ_castSucc, Fin.sum_univ_zero]
  change _ = (t0 + t1) + (t2 + t3) + (0 + g 0 + g 1 + g 2 + g 3 + g 4 + g 5 + g 6 + g 7 + g 8 + g 9 + g 10 + g 11 + g 12 + g 13 + g 14 + g 15 + g 16
    + g 17 + g 18 + g 19 + g 20 + g 21 + g 22 + g 23 + g 24 + g 25 + g 26 + g 27 + g 28 + g 29 + g 30 + g 31)
  abel

/-- A trip adds its 32 rows of voxels to the total. -/
theorem hist_tot (P Q : IVec S32x192 8) (p q : Fin 32 → Fin 192 → ℕ) (hp : ∀ j l, p j l < 64 ∧ P (ix2 j l) = BitVec.ofNat 8 (p j l))
    (hq : ∀ j l, q j l < 64 ∧ Q (ix2 j l) = BitVec.ofNat 8 (q j l)) (T : Vec Ideal S4x64x64 .f32) (a b : Fin 64) :
    tot (hist (F := Ideal) P Q T) a b = tot T a b + ∑ j, ∑ l, hit (p j l) (q j l) a b := by
  have e : ∀ r : Fin 4, hist (F := Ideal) P Q T (ix3 r a b) = T (ix3 r a b) + (∑ l, hit (p ⟨r.val, by omega⟩ l) (q ⟨r.val, by omega⟩ l) a b)
      + (∑ l, hit (p ⟨r.val + 4, by omega⟩ l) (q ⟨r.val + 4, by omega⟩ l) a b) + (∑ l, hit (p ⟨r.val + 8, by omega⟩ l) (q ⟨r.val + 8, by omega⟩ l) a b)
      + (∑ l, hit (p ⟨r.val + 12, by omega⟩ l) (q ⟨r.val + 12, by omega⟩ l) a b) + (∑ l, hit (p ⟨r.val + 16, by omega⟩ l) (q ⟨r.val + 16, by omega⟩ l) a b)
      + (∑ l, hit (p ⟨r.val + 20, by omega⟩ l) (q ⟨r.val + 20, by omega⟩ l) a b) + (∑ l, hit (p ⟨r.val + 24, by omega⟩ l) (q ⟨r.val + 24, by omega⟩ l) a b)
      + (∑ l, hit (p ⟨r.val + 28, by omega⟩ l) (q ⟨r.val + 28, by omega⟩ l) a b) := fun r => by
    rw [hist_at]
    change rows8 (F := Ideal) P Q r (plane T r) (ix2 a b) = _
    unfold rows8
    simp only [rowAdd_apply P Q p q hp hq]
    rfl
  unfold tot
  rw [e, e, e, e]
  exact by_fours _ _ _ _ fun j => ∑ l, hit (p j l) (q j l) a b

/-! ## A plane, and a block -/

/-- One for a voxel whose two bins are `a` and `b`. -/
def mark (lo hi lo' hi' x y : EReal) (a b : Fin 64) : EReal := hit (binOf lo hi x) (binOf lo' hi' y) a b

section Block

variable (xm : Vec Ideal S4 .f32) (x y : Vec Ideal S1x1x6x224x192 .f32)

/-- The mark of one voxel of a block. -/
def markAt (a b : Fin 64) (d : Fin 6) (h : Fin 224) (l : Fin 192) : EReal :=
  mark (xm (ix4 0)) (xm (ix4 1)) (xm (ix4 2)) (xm (ix4 3)) (x (ix5 0 0 d h l)) (y (ix5 0 0 d h l)) a b

theorem rows_at (z : Vec Ideal S1x1x6x224x192 .f32) (d : Fin 6) (t : ℕ) (j : Fin 32) (l : Fin 192) :
    rows (F := Ideal) z d t (ix5 0 0 0 j l) = z (ix5 0 0 d ⟨(32 * t + j.val) % 224, Nat.mod_lt _ (by decide)⟩ l) := by
  unfold rows
  refine congrArg z (funext fun a => ?_)
  match a with
  | ⟨0, _⟩ => rfl
  | ⟨1, _⟩ => rfl
  | ⟨2, _⟩ => rfl
  | ⟨3, _⟩ => rfl
  | ⟨4, _⟩ => rfl

theorem trips_tot (d : Fin 6) (T : Vec Ideal S4x64x64 .f32) (a b : Fin 64) (n : ℕ) :
    tot (trips (binsAt (F := Ideal) xm x y d) T n) a b = tot T a b
      + ∑ t ∈ Finset.range n, ∑ j : Fin 32, ∑ l, markAt xm x y a b d ⟨(32 * t + j.val) % 224, Nat.mod_lt _ (by decide)⟩ l := by
  induction n with
  | zero => simp [trips]
  | succ n ih =>
    rw [Finset.sum_range_succ, ← add_assoc, ← ih]
    refine hist_tot _ _ (fun j l => binOf (xm (ix4 0)) (xm (ix4 1)) (x (ix5 0 0 d ⟨(32 * n + j.val) % 224, Nat.mod_lt _ (by decide)⟩ l)))
      (fun j l => binOf (xm (ix4 2)) (xm (ix4 3)) (y (ix5 0 0 d ⟨(32 * n + j.val) % 224, Nat.mod_lt _ (by decide)⟩ l))) (fun j l => ⟨binOf_lt _ _ _, ?_⟩)
      (fun j l => ⟨binOf_lt _ _ _, ?_⟩) _ a b
    · refine (binsOf_apply _ _ _ j l).trans ?_
      rw [rows_at]
    · refine (binsOf_apply _ _ _ j l).trans ?_
      rw [rows_at]

/-- Seven times 32 rows are the 224 rows of a plane. -/
theorem seven_rows (g : Fin 224 → EReal) :
    ∑ t ∈ Finset.range 7, ∑ j : Fin 32, g ⟨(32 * t + j.val) % 224, Nat.mod_lt _ (by decide)⟩ = ∑ h, g h := by
  rw [Finset.sum_range, ← Finset.sum_product']
  refine Fintype.sum_equiv (finProdFinEquiv (m := 7) (n := 32)) _ _ fun x => congrArg g (Fin.ext ?_)
  have h1 := x.1.isLt
  have h2 := x.2.isLt
  simp only [finProdFinEquiv, Equiv.coe_fn_mk]
  omega

theorem plane_tot (d : Fin 6) (T : Vec Ideal S4x64x64 .f32) (a b : Fin 64) :
    tot (trips (binsAt (F := Ideal) xm x y d) T 7) a b = tot T a b + ∑ h, ∑ l, markAt xm x y a b d h l := by
  rw [trips_tot, seven_rows fun h => ∑ l, markAt xm x y a b d h l]

/-- A block adds the marks of its voxels to the total. -/
theorem count_tot (T : Vec Ideal S4x64x64 .f32) (a b : Fin 64) :
    tot (Gen.count (F := Ideal) xm x y T) a b = tot T a b + ∑ d, ∑ h, ∑ l, markAt xm x y a b d h l := by
  unfold Gen.count
  rw [plane_tot, plane_tot, plane_tot, plane_tot, plane_tot, plane_tot, Fin.sum_univ_six]
  simp only [add_assoc]

end Block

/-- The empty tables add up to nothing. -/
theorem noCount_tot (a b : Fin 64) : tot (noCount (F := Ideal)) a b = 0 := by
  unfold tot noCount
  have e : ∀ r, (k0_pay351 (F := Ideal)) (ix3 r a b) = 0 := fun r => by
    pointwise [k0_pay351]
  rw [e, e, e, e]
  simp

end Cert.Value

end
-- ==== Proof.Value.Blocks.lean ====
module

public import proofs.«01_k».proof.Proof.Value.Tables

@[expose] public section

set_option maxRecDepth 16384

noncomputable section

open scoped BigOperators

namespace Cert.Value

open Idealize.ShloMosaic Cert.KernelIdeal Cert.KernelIdeal.Gen

variable (m : (ℓ : Loc nD τ sig) → Buf (Elt Ideal) ℓ) (c : Dev nD)

/-- Which block of a volume array each point takes. -/
theorem index_2 : ∀ t : Fin cfg0.N, (cfg0.win 2).index t 0 = t.val / 64 ∧ (cfg0.win 2).index t 1 = 0 ∧ (cfg0.win 2).index t 2 = t.val % 32
    ∧ (cfg0.win 2).index t 3 = 0 ∧ (cfg0.win 2).index t 4 = 0 := by decide +kernel
theorem index_3 : ∀ t : Fin cfg0.N, (cfg0.win 3).index t 0 = t.val / 64 ∧ (cfg0.win 3).index t 1 = 0 ∧ (cfg0.win 3).index t 2 = t.val % 32
    ∧ (cfg0.win 3).index t 3 = 0 ∧ (cfg0.win 3).index t 4 = 0 := by decide +kernel

/-- The two volume arrays as launched. -/
abbrev argF : Vec Ideal S2x1x192x224x192 .f32 := m ((c.tc : Thread nD τ).loc main_arg2)
abbrev argW : Vec Ideal S2x1x192x224x192 .f32 := m ((c.tc : Thread nD τ).loc main_arg3)

/-- The volume a point works on, and the plane of the volume that is plane `d` of its block. -/
def vol (t : Fin cfg0.N) : Fin 2 := ⟨t.val / 64, by have := (coords3 t).1; omega⟩
def deep (t : Fin cfg0.N) (d : Fin 6) : Fin 192 := ⟨6 * (t.val % 32) + d.val, by omega⟩

theorem fblk_at (t : Fin cfg0.N) (d : Fin 6) (h : Fin 224) (l : Fin 192) :
    fblk m c t (ix5 0 0 d h l) = argF m c (ix5 (vol t) 0 (deep t d) h l) := by
  obtain ⟨i0, i1, i2, i3, i4⟩ := index_2 t
  unfold fblk iblk
  rw [View.read_apply]
  refine (congrFun (V_main_arg2 m c) _).trans ?_
  refine congrArg (argF m c) (funext fun a => Fin.ext ?_)
  refine ((cfg0.win 2).rect_emb_val t _ a).trans ?_
  match a with
  | ⟨0, _⟩ => change (cfg0.win 2).index t 0 * 1 + 0 = t.val / 64; omega
  | ⟨1, _⟩ => change (cfg0.win 2).index t 1 * 1 + 0 = 0; omega
  | ⟨2, _⟩ => change (cfg0.win 2).index t 2 * 6 + d.val = 6 * (t.val % 32) + d.val; omega
  | ⟨3, _⟩ => change (cfg0.win 2).index t 3 * 224 + h.val = h.val; omega
  | ⟨4, _⟩ => change (cfg0.win 2).index t 4 * 192 + l.val = l.val; omega

theorem wblk_at (t : Fin cfg0.N) (d : Fin 6) (h : Fin 224) (l : Fin 192) :
    wblk m c t (ix5 0 0 d h l) = argW m c (ix5 (vol t) 0 (deep t d) h l) := by
  obtain ⟨i0, i1, i2, i3, i4⟩ := index_3 t
  unfold wblk iblk
  rw [View.read_apply]
  refine (congrFun (V_main_arg3 m c) _).trans ?_
  refine congrArg (argW m c) (funext fun a => Fin.ext ?_)
  refine ((cfg0.win 3).rect_emb_val t _ a).trans ?_
  match a with
  | ⟨0, _⟩ => change (cfg0.win 3).index t 0 * 1 + 0 = t.val / 64; omega
  | ⟨1, _⟩ => change (cfg0.win 3).index t 1 * 1 + 0 = 0; omega
  | ⟨2, _⟩ => change (cfg0.win 3).index t 2 * 6 + d.val = 6 * (t.val % 32) + d.val; omega
  | ⟨3, _⟩ => change (cfg0.win 3).index t 3 * 224 + h.val = h.val; omega
  | ⟨4, _⟩ => change (cfg0.win 3).index t 4 * 192 + l.val = l.val; omega

/-- A volume of an array as a function of the voxel. -/
def voxels (A : Vec Ideal S2x1x192x224x192 .f32) (b : Fin 2) (v : Vox) : EReal := A (ix5 b 0 v.1 v.2.1 v.2.2)

end Cert.Value

end
-- ==== Proof.Value.Ranges.lean ====
module

public import proofs.«01_k».proof.Proof.Value.Blocks

@[expose] public section

set_option maxRecDepth 16384

noncomputable section

open scoped BigOperators

namespace Cert.Value

open Idealize.ShloMosaic Cert.KernelIdeal Cert.KernelIdeal.Gen

variable (m : (ℓ : Loc nD τ sig) → Buf (Elt Ideal) ℓ) (c : Dev nD)

/-- Point `n` of volume `b`. -/
def pt (b : Fin 2) (n : ℕ) (h : n < 64) : Fin cfg0.N := ⟨64 * b.val + n, Nat.lt_of_lt_of_eq (by omega) N_0.symm⟩

theorem vol_pt (b : Fin 2) (n : ℕ) (h : n < 64) : vol (pt b n h) = b := Fin.ext (by unfold vol pt; simp only []; omega)
theorem deep_pt (b : Fin 2) (n : ℕ) (h : n < 64) (d : Fin 6) : deep (pt b n h) d = ⟨6 * (n % 32) + d.val, by omega⟩ :=
  Fin.ext (by unfold deep pt; simp only []; omega)

/-! ## The first pass: least and greatest values -/

/-- A statement about all planes from one that grows by six planes at each of 32 points. -/
theorem climb (P : ℕ → Prop) (Q : Fin 192 → Prop) (h0 : P 1 ↔ ∀ d : Fin 6, Q ⟨d.val, by omega⟩)
    (hs : ∀ n, 0 < n → ∀ hn : n < 32, P (n + 1) ↔ P n ∧ ∀ d : Fin 6, Q ⟨6 * n + d.val, by omega⟩) : P 32 ↔ ∀ p, Q p := by
  have key : ∀ n, 0 < n → n ≤ 32 → (P n ↔ ∀ p : Fin 192, p.val < 6 * n → Q p) := by
    intro n hn
    induction n, hn using Nat.le_induction with
    | base =>
      intro _
      rw [h0]
      exact ⟨fun h p hp => h ⟨p.val, by omega⟩, fun h d => h _ (by have := d.isLt; simp only []; omega)⟩
    | succ n hn ih =>
      intro hle
      rw [hs n hn (by omega), ih (by omega)]
      constructor
      · rintro ⟨h1, h2⟩ p hp
        by_cases hlt : p.val < 6 * n
        · exact h1 p hlt
        · have h := h2 ⟨p.val - 6 * n, by omega⟩
          have e : (⟨6 * n + (p.val - 6 * n), by omega⟩ : Fin 192) = p := Fin.ext (by simp only []; omega)
          exact e ▸ h
      · exact fun h => ⟨fun p hp => h p (by omega), fun d => h _ (by have := d.isLt; simp only []; omega)⟩
  rw [key 32 (by omega) le_rfl]
  exact ⟨fun h p => h p (by have := p.isLt; omega), fun h p _ => h p⟩

/-- What a step makes of each of the four numbers. -/
theorem step_0 (o : Vec Ideal S4 .f32) (x y : Vec Ideal S1x1x6x224x192 .f32) : mmStep (F := Ideal) o x y (ix4 0) = k0_pay3 x (o (ix4 0)) := rfl
theorem step_1 (o : Vec Ideal S4 .f32) (x y : Vec Ideal S1x1x6x224x192 .f32) : mmStep (F := Ideal) o x y (ix4 1) = k0_pay4 x (o (ix4 1)) := rfl
theorem step_2 (o : Vec Ideal S4 .f32) (x y : Vec Ideal S1x1x6x224x192 .f32) : mmStep (F := Ideal) o x y (ix4 2) = k0_pay5 y (o (ix4 2)) := rfl
theorem step_3 (o : Vec Ideal S4 .f32) (x y : Vec Ideal S1x1x6x224x192 .f32) : mmStep (F := Ideal) o x y (ix4 3) = k0_pay6 y (o (ix4 3)) := rfl
theorem init_0 : mmInit (F := Ideal) (ix4 0) = ⊤ := top_word
theorem init_1 : mmInit (F := Ideal) (ix4 1) = ⊥ := bot_word
theorem init_2 : mmInit (F := Ideal) (ix4 2) = ⊤ := top_word
theorem init_3 : mmInit (F := Ideal) (ix4 3) = ⊥ := bot_word

/-- The planes a block of the pass holds. -/
def Holds6 (A : Vec Ideal S2x1x192x224x192 .f32) (b : Fin 2) (X : ℕ → Vec Ideal S1x1x6x224x192 .f32) : Prop :=
  ∀ n, ∀ h : n < 32, ∀ (d : Fin 6) r l, X n (ix5 0 0 d r l) = A (ix5 b 0 ⟨6 * n + d.val, by omega⟩ r l)

theorem Holds6.block {A : Vec Ideal S2x1x192x224x192 .f32} {b : Fin 2} {X : ℕ → Vec Ideal S1x1x6x224x192 .f32} (hX : Holds6 A b X) (n : ℕ) (h : n < 32)
    (R : EReal → Prop) :
    (∀ d r l, R (X n (ix5 0 0 d r l))) ↔ ∀ d : Fin 6, ∀ (r : Fin 224) (l : Fin 192), R (A (ix5 b 0 ⟨6 * n + d.val, by omega⟩ r l)) :=
  forall_congr' fun d => forall_congr' fun r => forall_congr' fun l => by rw [hX n h]

theorem Holds6.block0 {A : Vec Ideal S2x1x192x224x192 .f32} {b : Fin 2} {X : ℕ → Vec Ideal S1x1x6x224x192 .f32} (hX : Holds6 A b X) (R : EReal → Prop) :
    (∀ d r l, R (X 0 (ix5 0 0 d r l))) ↔ ∀ d : Fin 6, ∀ (r : Fin 224) (l : Fin 192), R (A (ix5 b 0 ⟨d.val, by omega⟩ r l)) := by
  refine (hX.block 0 (by omega) R).trans (forall_congr' fun d => ?_)
  have e : (⟨6 * 0 + d.val, by omega⟩ : Fin 192) = ⟨d.val, by omega⟩ := Fin.ext (by simp only []; omega)
  rw [e]

/-- All planes, rows and lanes are all voxels. -/
theorem all_voxels (A : Vec Ideal S2x1x192x224x192 .f32) (b : Fin 2) (R : EReal → Prop) :
    (∀ p : Fin 192, ∀ (r : Fin 224) (l : Fin 192), R (A (ix5 b 0 p r l))) ↔ ∀ v : Vox, R (voxels A b v) :=
  ⟨fun h v => h v.1 v.2.1 v.2.2, fun h p r l => h (p, r, l)⟩

/-- The least value, from the bounds below it. -/
theorem eq_least (f : Vox → EReal) (x : EReal) (h : ∀ z, z ≤ x ↔ ∀ v, z ≤ f v) : x = least f :=
  eq_of_forall_le_iff fun z => (h z).trans (by simp [least, Finset.le_inf_iff])
theorem eq_greatest (f : Vox → EReal) (x : EReal) (h : ∀ z, x ≤ z ↔ ∀ v, f v ≤ z) : x = greatest f :=
  eq_of_forall_ge_iff fun z => (h z).trans (by simp [greatest, Finset.sup_le_iff])

section Pass

variable {A B : Vec Ideal S2x1x192x224x192 .f32} {b : Fin 2} {X Y : ℕ → Vec Ideal S1x1x6x224x192 .f32} (hX : Holds6 A b X) (hY : Holds6 B b Y)
  (S : ℕ → Vec Ideal S4 .f32) (h1 : S 1 = mmStep mmInit (X 0) (Y 0)) (hn : ∀ n, 0 < n → n < 32 → S (n + 1) = mmStep (S n) (X n) (Y n))

include hX hY h1 hn

theorem pass_lo_f : S 32 (ix4 0) = least (voxels A b) := by
  refine eq_least _ _ fun z => ?_
  refine (climb (fun n => z ≤ S n (ix4 0)) (fun p => ∀ (r : Fin 224) (l : Fin 192), z ≤ A (ix5 b 0 p r l)) ?_ ?_).trans
    (all_voxels A b fun y => z ≤ y)
  · rw [h1, step_0, le_pay3, hX.block0 fun y => z ≤ y, init_0]
    exact and_iff_right le_top
  · intro n h0 h
    rw [hn n h0 h, step_0, le_pay3, hX.block n h fun y => z ≤ y]

theorem pass_hi_f : S 32 (ix4 1) = greatest (voxels A b) := by
  refine eq_greatest _ _ fun z => ?_
  refine (climb (fun n => S n (ix4 1) ≤ z) (fun p => ∀ (r : Fin 224) (l : Fin 192), A (ix5 b 0 p r l) ≤ z) ?_ ?_).trans
    (all_voxels A b fun y => y ≤ z)
  · rw [h1, step_1, pay4_le, hX.block0 fun y => y ≤ z, init_1]
    exact and_iff_right bot_le
  · intro n h0 h
    rw [hn n h0 h, step_1, pay4_le, hX.block n h fun y => y ≤ z]

theorem pass_lo_w : S 32 (ix4 2) = least (voxels B b) := by
  refine eq_least _ _ fun z => ?_
  refine (climb (fun n => z ≤ S n (ix4 2)) (fun p => ∀ (r : Fin 224) (l : Fin 192), z ≤ B (ix5 b 0 p r l)) ?_ ?_).trans
    (all_voxels B b fun y => z ≤ y)
  · rw [h1, step_2, le_pay5, hY.block0 fun y => z ≤ y, init_2]
    exact and_iff_right le_top
  · intro n h0 h
    rw [hn n h0 h, step_2, le_pay5, hY.block n h fun y => z ≤ y]

theorem pass_hi_w : S 32 (ix4 3) = greatest (voxels B b) := by
  refine eq_greatest _ _ fun z => ?_
  refine (climb (fun n => S n (ix4 3) ≤ z) (fun p => ∀ (r : Fin 224) (l : Fin 192), B (ix5 b 0 p r l) ≤ z) ?_ ?_).trans
    (all_voxels B b fun y => y ≤ z)
  · rw [h1, step_3, pay6_le, hY.block0 fun y => y ≤ z, init_3]
    exact and_iff_right bot_le
  · intro n h0 h
    rw [hn n h0 h, step_3, pay6_le, hY.block n h fun y => y ≤ z]

end Pass

/-- The blocks of a pass, numbered from its first point; past its points anything. -/
def fseq (b : Fin 2) (o n : ℕ) : Vec Ideal S1x1x6x224x192 .f32 := if h : o + n < 64 then fblk m c (pt b (o + n) h) else fun _ => 0
def wseq (b : Fin 2) (o n : ℕ) : Vec Ideal S1x1x6x224x192 .f32 := if h : o + n < 64 then wblk m c (pt b (o + n) h) else fun _ => 0

theorem fseq_of (b : Fin 2) (o n : ℕ) (h : o + n < 64) : fseq m c b o n = fblk m c (pt b (o + n) h) := dif_pos h
theorem wseq_of (b : Fin 2) (o n : ℕ) (h : o + n < 64) : wseq m c b o n = wblk m c (pt b (o + n) h) := dif_pos h

theorem fseq_holds (b : Fin 2) (o : ℕ) (ho : o = 0 ∨ o = 32) : Holds6 (argF m c) b (fseq m c b o) := fun n h d r l => by
  have e : (⟨6 * ((o + n) % 32) + d.val, by omega⟩ : Fin 192) = ⟨6 * n + d.val, by omega⟩ := Fin.ext (by simp only []; omega)
  rw [fseq_of m c b o n (by omega), fblk_at, vol_pt, deep_pt, e]
theorem wseq_holds (b : Fin 2) (o : ℕ) (ho : o = 0 ∨ o = 32) : Holds6 (argW m c) b (wseq m c b o) := fun n h d r l => by
  have e : (⟨6 * ((o + n) % 32) + d.val, by omega⟩ : Fin 192) = ⟨6 * n + d.val, by omega⟩ := Fin.ext (by simp only []; omega)
  rw [wseq_of m c b o n (by omega), wblk_at, vol_pt, deep_pt, e]

/-- The four numbers before point `n` of volume `b`. -/
def mmSeq (b : Fin 2) (n : ℕ) : Vec Ideal S4 .f32 := mmAt m c (64 * b.val + n)

theorem mmSeq_one (b : Fin 2) : mmSeq m c b 1 = mmStep mmInit (fseq m c b 0 0) (wseq m c b 0 0) := by
  rw [fseq_of m c b 0 0 (by omega), wseq_of m c b 0 0 (by omega)]
  exact mmAt_first m c (pt b (0 + 0) (by omega)) (by unfold pt; simp only []; omega)
theorem mmSeq_next (b : Fin 2) (n : ℕ) (h0 : 0 < n) (h : n < 32) :
    mmSeq m c b (n + 1) = mmStep (mmSeq m c b n) (fseq m c b 0 n) (wseq m c b 0 n) := by
  rw [fseq_of m c b 0 n (by omega), wseq_of m c b 0 n (by omega)]
  have e := mmAt_next m c (pt b (0 + n) (by omega)) (by unfold pt; simp only []; omega) (by unfold pt; simp only []; omega)
  have e' : (pt b (0 + n) (by omega)).val = 64 * b.val + n := by unfold pt; simp only []; omega
  rw [e'] at e
  exact e

/-- The second pass keeps the four numbers. -/
theorem mmSeq_kept (b : Fin 2) (n : ℕ) (h : n ≤ 32) : mmSeq m c b (32 + n) = mmSeq m c b 32 := by
  induction n with
  | zero => rfl
  | succ n ih =>
    rw [← ih (by omega)]
    exact mmAt_keep m c (pt b (32 + n) (by omega)) (by unfold pt; simp only []; omega)

/-- The four numbers in the second pass. -/
theorem four_numbers (b : Fin 2) (n : ℕ) (h : n ≤ 32) :
    mmSeq m c b (32 + n) (ix4 0) = least (voxels (argF m c) b) ∧ mmSeq m c b (32 + n) (ix4 1) = greatest (voxels (argF m c) b)
      ∧ mmSeq m c b (32 + n) (ix4 2) = least (voxels (argW m c) b) ∧ mmSeq m c b (32 + n) (ix4 3) = greatest (voxels (argW m c) b) := by
  rw [mmSeq_kept m c b n h]
  exact ⟨pass_lo_f (fseq_holds m c b 0 (.inl rfl)) (wseq_holds m c b 0 (.inl rfl)) (mmSeq m c b) (mmSeq_one m c b) (mmSeq_next m c b),
    pass_hi_f (fseq_holds m c b 0 (.inl rfl)) (wseq_holds m c b 0 (.inl rfl)) (mmSeq m c b) (mmSeq_one m c b) (mmSeq_next m c b),
    pass_lo_w (fseq_holds m c b 0 (.inl rfl)) (wseq_holds m c b 0 (.inl rfl)) (mmSeq m c b) (mmSeq_one m c b) (mmSeq_next m c b),
    pass_hi_w (fseq_holds m c b 0 (.inl rfl)) (wseq_holds m c b 0 (.inl rfl)) (mmSeq m c b) (mmSeq_one m c b) (mmSeq_next m c b)⟩

/-! ## The second pass: the counts -/

/-- The marks of one plane of a volume. -/
def planeMarks (A B : Vec Ideal S2x1x192x224x192 .f32) (b : Fin 2) (x y : Fin 64) (p : Fin 192) : EReal :=
  ∑ h : Fin 224, ∑ l : Fin 192, mark (least (voxels A b)) (greatest (voxels A b)) (least (voxels B b)) (greatest (voxels B b))
    (A (ix5 b 0 p h l)) (B (ix5 b 0 p h l)) x y

/-- What a point of the second pass adds to the total. -/
theorem block_marks {A B : Vec Ideal S2x1x192x224x192 .f32} {b : Fin 2} {X Y : ℕ → Vec Ideal S1x1x6x224x192 .f32} (hX : Holds6 A b X) (hY : Holds6 B b Y)
    (o : Vec Ideal S4 .f32) (ho : o (ix4 0) = least (voxels A b) ∧ o (ix4 1) = greatest (voxels A b) ∧ o (ix4 2) = least (voxels B b) ∧ o (ix4 3) = greatest (voxels B b))
    (n : ℕ) (h : n < 32) (T : Vec Ideal S4x64x64 .f32) (x y : Fin 64) :
    tot (Gen.count o (X n) (Y n) T) x y = tot T x y + ∑ d : Fin 6, planeMarks A B b x y ⟨(6 * n + d.val) % 192, Nat.mod_lt _ (by decide)⟩ := by
  obtain ⟨o0, o1, o2, o3⟩ := ho
  rw [count_tot]
  refine congrArg (tot T x y + ·) (Finset.sum_congr rfl fun d _ => Finset.sum_congr rfl fun r _ => Finset.sum_congr rfl fun l _ => ?_)
  have e : (⟨6 * n + d.val, by omega⟩ : Fin 192) = ⟨(6 * n + d.val) % 192, Nat.mod_lt _ (by decide)⟩ := Fin.ext (by simp only []; omega)
  unfold markAt
  rw [hX n h, hY n h, o0, o1, o2, o3, e]

/-- The tables before point `n` of volume `b`. -/
def tabSeq (b : Fin 2) (n : ℕ) : Vec Ideal S4x64x64 .f32 := tabAt m c (64 * b.val + n)

theorem tabSeq_one (b : Fin 2) : tabSeq m c b (32 + 1) = Gen.count (mmSeq m c b (32 + 0)) (fseq m c b 32 0) (wseq m c b 32 0) noCount := by
  rw [fseq_of m c b 32 0 (by omega), wseq_of m c b 32 0 (by omega)]
  exact tabAt_first m c (pt b (32 + 0) (by omega)) (by unfold pt; simp only []; omega) (by unfold pt; simp only []; omega)
theorem tabSeq_next (b : Fin 2) (n : ℕ) (h0 : 0 < n) (h : n < 32) :
    tabSeq m c b (32 + (n + 1)) = Gen.count (mmSeq m c b (32 + n)) (fseq m c b 32 n) (wseq m c b 32 n) (tabSeq m c b (32 + n)) := by
  rw [fseq_of m c b 32 n (by omega), wseq_of m c b 32 n (by omega)]
  exact tabAt_next m c (pt b (32 + n) (by omega)) (by unfold pt; simp only []; omega) (by unfold pt; simp only []; omega)

theorem tab_tot (b : Fin 2) (x y : Fin 64) (n : ℕ) (h : n < 32) :
    tot (tabSeq m c b (32 + (n + 1))) x y
      = ∑ i ∈ Finset.range (n + 1), ∑ d : Fin 6, planeMarks (argF m c) (argW m c) b x y ⟨(6 * i + d.val) % 192, Nat.mod_lt _ (by decide)⟩ := by
  induction n with
  | zero =>
    rw [Nat.zero_add, tabSeq_one, block_marks (fseq_holds m c b 32 (.inr rfl)) (wseq_holds m c b 32 (.inr rfl)) _ (four_numbers m c b 0 (by omega)) 0 (by omega),
      noCount_tot, Finset.sum_range_one, zero_add]
  | succ n ih =>
    rw [Finset.sum_range_succ, ← ih (by omega), tabSeq_next m c b (n + 1) (by omega) h,
      block_marks (fseq_holds m c b 32 (.inr rfl)) (wseq_holds m c b 32 (.inr rfl)) _ (four_numbers m c b (n + 1) (by omega)) (n + 1) h]

/-- Thirty-two times six planes are the 192 planes of a volume. -/
theorem all_planes (g : Fin 192 → EReal) :
    ∑ i ∈ Finset.range 32, ∑ d : Fin 6, g ⟨(6 * i + d.val) % 192, Nat.mod_lt _ (by decide)⟩ = ∑ p, g p := by
  rw [Finset.sum_range, ← Finset.sum_product']
  refine Fintype.sum_equiv (finProdFinEquiv (m := 32) (n := 6)) _ _ fun x => congrArg g (Fin.ext ?_)
  have h1 := x.1.isLt
  have h2 := x.2.isLt
  simp only [finProdFinEquiv, Equiv.coe_fn_mk]
  omega

/-- After a volume's last point the four tables add up to its joint counts. -/
theorem tab_cell (b : Fin 2) (x y : Fin 64) :
    tot (tabSeq m c b (32 + (31 + 1))) x y = cell (voxels (argF m c) b) (voxels (argW m c) b) x y := by
  rw [tab_tot m c b x y 31 (by omega), all_planes (planeMarks (argF m c) (argW m c) b x y)]
  unfold cell planeMarks mark
  rw [Fintype.sum_prod_type]
  refine Finset.sum_congr rfl fun p _ => ?_
  rw [Fintype.sum_prod_type]
  rfl

end Cert.Value

end
-- ==== Proof.Value.Finish.lean ====
module

public import proofs.«01_k».proof.Proof.Value.Ranges

@[expose] public section

set_option maxRecDepth 16384

noncomputable section

open scoped BigOperators

namespace Cert.Value

open Idealize.ShloMosaic Cert.KernelIdeal Cert.KernelIdeal.Gen

/-- Table `r` of the four at an entry. -/
theorem tab_at (T : Vec Ideal S4x64x64 .f32) (r : Fin 4) (a b : Fin 64) : tab (F := Ideal) T r (ix3 0 a b) = T (ix3 r a b) := by
  unfold tab
  refine congrArg T (funext fun x => ?_)
  match x with
  | ⟨0, _⟩ => rfl
  | ⟨1, _⟩ => rfl
  | ⟨2, _⟩ => rfl

/-- The table of parts. -/
theorem pay347_at (T : Vec Ideal S4x64x64 .f32) (a b : Fin 64) :
    k0_pay347 (F := Ideal) (tab T 0) (tab T 1) (tab T 2) (tab T 3) (ix2 a b) = joint (tot T) a b := by
  pointwise [k0_pay347]
  simp only [tab_at]
  rfl

theorem pay348_at (T : Vec Ideal S4x64x64 .f32) :
    k0_pay348 (F := Ideal) (tab T 0) (tab T 1) (tab T 2) (tab T 3) = entropy (fun a => ∑ b, joint (tot T) a b) := by
  pointwise [k0_pay348]
  simp only [pay347_at]
  simp only [Fin.sum_univ_one, Fin.isValue, Finset.sum_const, Finset.card_univ, Fintype.card_fin, one_smul, zero_sub]
  rfl

theorem pay349_at (T : Vec Ideal S4x64x64 .f32) (i : S1.Idx) :
    k0_pay349 (F := Ideal) (tab T 0) (tab T 1) (tab T 2) (tab T 3) i = ∑ b, (∑ a, joint (tot T) a b) * Ideal.log ((∑ a, joint (tot T) a b) + eps) := by
  pointwise [k0_pay349]
  simp only [pay347_at]
  simp only [Fin.sum_univ_one, Finset.sum_const, Finset.card_univ, Fintype.card_fin, one_smul]

theorem finish_0 (x0 x1 : Vec Ideal S1x1x128 .f32) (T : Vec Ideal S4x64x64 .f32) :
    finish (F := Ideal) x0 x1 T (ix3 0 0 0) = ∑ l : Fin 128, (x0 (ix3 0 0 l) - x1 (ix3 0 0 l)) * (x0 (ix3 0 0 l) - x1 (ix3 0 0 l)) := by
  pointwise [finish, k0_pay350]
  simp only [Fin.sum_univ_one, Finset.sum_const, Finset.card_univ, Fintype.card_fin, one_smul]

theorem finish_1 (x0 x1 : Vec Ideal S1x1x128 .f32) (T : Vec Ideal S4x64x64 .f32) :
    finish (F := Ideal) x0 x1 T (ix3 0 0 1) = shared (joint (tot T)) := by
  pointwise [finish, k0_pay350]
  simp only [pay347_at, pay348_at, pay349_at]
  rw [show IntOp.cmpi CmpIPredicate.eq (1#32) (0#32) = 0#1 from by decide]
  simp only [Scalar.select, zero_sub]
  rfl

end Cert.Value

end
-- ==== Proof.Value.Result.lean ====
module

public import proofs.«01_k».proof.Proof.Value.Finish
public import Idealize.ShloMosaic.Lib.Pipeline.ValueKit
public import Idealize.ShloMosaic.Lib.StableHlo.Run

@[expose] public section

set_option maxRecDepth 16384

noncomputable section

open scoped BigOperators

namespace Cert.Value

open Idealize.ShloMosaic Cert.KernelIdeal Cert.KernelIdeal.Gen
open Idealize.ShloMosaic.Pipeline

variable (m : (ℓ : Loc nD τ sig) → Buf (Elt Ideal) ℓ) (c : Dev nD)

/-- The two affine arrays as launched. -/
abbrev argP : Vec Ideal S2x12 .f32 := m ((c.tc : Thread nD τ).loc main_arg0)
abbrev argT : Vec Ideal S2x12 .f32 := m ((c.tc : Thread nD τ).loc main_arg1)

/-! ## The padded affine rows -/

/-- A row padded with zeros. -/
def padded (A : Vec Ideal S2x12 .f32) : Vec Ideal S2x1x128 .f32 :=
  pad S2x1x128 ![0, 0, 0] ![0, 0, 116] ![0, 0, 0] (broadcastInDim S2x1x12 ![0, 2] bcast_S2x12_S2x1x12_0_2 A) (sitofp (F := Ideal) .f32 (constantI S_ 32 0#32) : FVec Ideal S_ .f32)
    pads_S2x1x12_S2x1x128_000_000_01160 h_S_

theorem V_main_v1 : V m c main_v1 = padded (argP m c) := by
  simp only [V, V0, hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results_simp <;> rfl

theorem V_main_v3 : V m c main_v3 = padded (argT m c) := by
  simp only [V, V0, hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results_simp <;> rfl

theorem padded_at (A : Vec Ideal S2x12 .f32) (b : Fin 2) (l : Fin 128) :
    padded A (ix3 b 0 l) = if h : l.val < 12 then A (ix2 b ⟨l.val, h⟩) else 0 := by
  have z : (FloatOps.sitofp .f32 0#32 : Ideal .f32) = 0 := by
    change (((0#32).toInt : ℝ) : EReal) = 0
    simp
  pointwise [padded]
  rw [z]

theorem index_0 : ∀ t : Fin cfg0.N, (cfg0.win 0).index t 0 = t.val / 64 ∧ (cfg0.win 0).index t 1 = 0 ∧ (cfg0.win 0).index t 2 = 0 := by decide +kernel
theorem index_1 : ∀ t : Fin cfg0.N, (cfg0.win 1).index t 0 = t.val / 64 ∧ (cfg0.win 1).index t 1 = 0 ∧ (cfg0.win 1).index t 2 = 0 := by decide +kernel
theorem index_4 : ∀ t : Fin cfg0.N, (cfg0.win 4).index t 0 = t.val / 64 ∧ (cfg0.win 4).index t 1 = 0 ∧ (cfg0.win 4).index t 2 = 0 := by decide +kernel

/-- The blocks of the two padded arrays. -/
abbrev pblk (t : Fin cfg0.N) : Vec Ideal S1x1x128 .f32 := iblk m c 0 t
abbrev tblk (t : Fin cfg0.N) : Vec Ideal S1x1x128 .f32 := iblk m c 1 t

theorem pblk_at (t : Fin cfg0.N) (l : Fin 128) : pblk m c t (ix3 0 0 l) = padded (argP m c) (ix3 (vol t) 0 l) := by
  obtain ⟨i0, i1, i2⟩ := index_0 t
  unfold pblk iblk
  rw [View.read_apply]
  refine (congrFun (V_main_v1 m c) _).trans ?_
  refine congrArg (padded (argP m c)) (funext fun a => Fin.ext ?_)
  refine ((cfg0.win 0).rect_emb_val t _ a).trans ?_
  match a with
  | ⟨0, _⟩ => change (cfg0.win 0).index t 0 * 1 + 0 = t.val / 64; omega
  | ⟨1, _⟩ => change (cfg0.win 0).index t 1 * 1 + 0 = 0; omega
  | ⟨2, _⟩ => change (cfg0.win 0).index t 2 * 128 + l.val = l.val; omega

theorem tblk_at (t : Fin cfg0.N) (l : Fin 128) : tblk m c t (ix3 0 0 l) = padded (argT m c) (ix3 (vol t) 0 l) := by
  obtain ⟨i0, i1, i2⟩ := index_1 t
  unfold tblk iblk
  rw [View.read_apply]
  refine (congrFun (V_main_v3 m c) _).trans ?_
  refine congrArg (padded (argT m c)) (funext fun a => Fin.ext ?_)
  refine ((cfg0.win 1).rect_emb_val t _ a).trans ?_
  match a with
  | ⟨0, _⟩ => change (cfg0.win 1).index t 0 * 1 + 0 = t.val / 64; omega
  | ⟨1, _⟩ => change (cfg0.win 1).index t 1 * 1 + 0 = 0; omega
  | ⟨2, _⟩ => change (cfg0.win 1).index t 2 * 128 + l.val = l.val; omega

/-- Padding adds nothing to the sum of squares. -/
theorem pad_sum (A B : Vec Ideal S2x12 .f32) (b : Fin 2) :
    ∑ l : Fin 128, (padded A (ix3 b 0 l) - padded B (ix3 b 0 l)) * (padded A (ix3 b 0 l) - padded B (ix3 b 0 l))
      = ∑ k : Fin 12, (A (ix2 b k) - B (ix2 b k)) * (A (ix2 b k) - B (ix2 b k)) := by
  refine (Fin.sum_univ_add (a := 12) (b := 116) _).trans ?_
  rw [Finset.sum_eq_zero (s := (Finset.univ : Finset (Fin 116))), add_zero]
  · refine Finset.sum_congr rfl fun k _ => ?_
    rw [padded_at, padded_at, dif_pos (by simp), dif_pos (by simp)]
    rfl
  · intro k _
    rw [padded_at, padded_at, dif_neg (by simp), dif_neg (by simp)]
    simp

/-! ## The array of result lines -/

/-- The line of results of each volume. -/
def lines : Vec Ideal S2x1x128 .f32 := fun i =>
  finish (pblk m c (pt (i 0) 63 (by omega))) (tblk m c (pt (i 0) 63 (by omega))) (tabSeq m c (i 0) 64) (ix3 0 0 (i 2))

theorem array_4 : (dats m 0 c).arrAt 4 cfg0.N = lines m c := by
  refine (dats m 0 c).arrAt_eq_of_covers 4 (lines m c) (by decide +kernel) fun t hf y => ?_
  have ht := (flush0_4 t).mp hf
  have hlt := (coords3 t).1
  obtain ⟨i0, i1, i2⟩ := index_4 t
  have e : (((cfg0.win 4).blk t).view.emb y : S2x1x128.Idx) = ix3 (vol t) 0 (y 2) := by
    funext a
    apply Fin.ext
    refine ((cfg0.win 4).rect_emb_val t _ a).trans ?_
    have y0 : (y 0).val < 1 := (y 0).isLt
    have y1 : (y 1).val < 1 := (y 1).isLt
    match a with
    | ⟨0, _⟩ => change (cfg0.win 4).index t 0 * 1 + (y 0).val = t.val / 64; omega
    | ⟨1, _⟩ => change (cfg0.win 4).index t 1 * 1 + (y 1).val = 0; omega
    | ⟨2, _⟩ => change (cfg0.win 4).index t 2 * 128 + (y 2).val = (y 2).val; omega
  have ep : pt (vol t) 63 (by omega) = t := Fin.ext (by unfold pt vol; simp only []; omega)
  have ey : ((cfg0.win 4).xinj (cfg0.grid.coords t) y : S1x1x128.Idx) = ix3 0 0 (y 2) := by
    funext a
    apply Fin.ext
    have y0 : (y 0).val < 1 := (y 0).isLt
    have y1 : (y 1).val < 1 := (y 1).isLt
    match a with
    | ⟨0, _⟩ => change (y 0).val = 0; omega
    | ⟨1, _⟩ => change (y 1).val = 0; omega
    | ⟨2, _⟩ => rfl
  have et : tabAt m c (t.val + 1) = tabSeq m c (vol t) 64 := congrArg (tabAt m c) (by unfold vol; simp only []; omega)
  have el : lines m c (ix3 (vol t) 0 (y 2)) = finish (pblk m c t) (tblk m c t) (tabSeq m c (vol t) 64) (ix3 0 0 (y 2)) := by
    change finish (pblk m c (pt (vol t) 63 (by omega))) (tblk m c (pt (vol t) 63 (by omega))) (tabSeq m c (vol t) 64) (ix3 0 0 (y 2)) = _
    rw [ep]
  refine Eq.trans ?_ (el.symm.trans (congrArg (lines m c) e.symm))
  refine (congrFun (after_4 m c t) _).trans ?_
  rw [et]
  exact congrArg _ ey

theorem tot_end (b : Fin 2) : tot (tabSeq m c b 64) = cell (voxels (argF m c) b) (voxels (argW m c) b) :=
  funext fun x => funext fun y => tab_cell m c b x y

theorem lines_0 (b : Fin 2) : lines m c (ix3 b 0 0) = ∑ k : Fin 12, (argP m c (ix2 b k) - argT m c (ix2 b k)) * (argP m c (ix2 b k) - argT m c (ix2 b k)) := by
  change finish (pblk m c (pt b 63 (by omega))) (tblk m c (pt b 63 (by omega))) (tabSeq m c b 64) (ix3 0 0 0) = _
  rw [finish_0, ← pad_sum]
  refine Finset.sum_congr rfl fun l _ => ?_
  rw [pblk_at, tblk_at, vol_pt]

theorem lines_1 (b : Fin 2) : lines m c (ix3 b 0 1) = shared (joint (cell (voxels (argF m c) b) (voxels (argW m c) b))) := by
  change finish (pblk m c (pt b 63 (by omega))) (tblk m c (pt b 63 (by omega))) (tabSeq m c b 64) (ix3 0 0 1) = _
  rw [finish_1, tot_end]

/-! ## The host operations after the region -/

/-- The last host operations of the kernel's program, of the array of lines. -/
def tail (L : FVec Ideal S2x1x128 .f32) : FVec Ideal S_ .f32 :=
  addf (Host.divf (Host.reduceAdd (shapeCast S2 (extractStridedSlice S2x1x1 ![0, 0, 0] L slices_S2x1x128_S2x1x1_0_0_0) shapeCasts_S2x1x1_S2)
      (constant S_ .f32 0x00000000#32) reducesTo_S2_S_d0 h_S_) (constant S_ .f32 0x41C00000#32))
    (Host.negf (Host.divf (Host.reduceAdd (shapeCast S2 (extractStridedSlice S2x1x1 ![0, 0, 1] L slices_S2x1x128_S2x1x1_0_0_1) shapeCasts_S2x1x1_S2)
      (constant S_ .f32 0x00000000#32) reducesTo_S2_S_d0 h_S_) (constant S_ .f32 0x40000000#32)))

theorem after_tail : afterTail₀ cfgs (dats m) 0 (V0 m) [hostOps1] c main_v14 = tail (lines m c) := by
  have hv : withArrays spec0 c (V0 m c) (fun w => (dats m 0 c).arrAt w cfg0.N) (Proc.devRef .tc main_v4) = lines m c :=
    (withArrays_arr spec0 (by decide) c (V0 m c) _ 4).trans (array_4 m c)
  unfold afterTail₀
  simp only [hostOps1, List.flatten_cons, List.flatten_nil, List.append_nil]
  after_results_simp
  exact congrArg tail hv

/-- The kernel's result is the loss. -/
theorem tail_loss (i : S_.Idx) : tail (lines m c) i = loss (fun b k => argP m c (ix2 b k)) (fun b k => argT m c (ix2 b k))
    (voxels (argF m c)) (voxels (argW m c)) := by
  pointwise [tail]
  simp only [lines_0, lines_1]
  rfl

end Cert.Value

end
-- ==== Proof.Value.RefTerm.lean ====
module

public import proofs.«01_k».proof.Proof.Gen.ReferenceIdeal.Run
public import proofs.«01_k».proof.Proof.Value.Spec

@[expose] public section

set_option maxRecDepth 16384

noncomputable section

namespace Cert.Value.Ref

open Idealize.ShloMosaic Cert.ReferenceIdeal Cert.ReferenceIdeal.Gen

/-! The reference's operations in named steps. -/

/-- A volume array with each volume as one long row. -/
def flat (A : FVec Ideal S2x1x192x224x192 .f32) : FVec Ideal S2x8257536 .f32 :=
  shapeCast S2x8257536 (shapeCast S2x192x224x192 A shapeCasts_S2x1x192x224x192_S2x192x224x192) shapeCasts_S2x192x224x192_S2x8257536

/-- The least and the greatest value of each row. -/
def low (x : FVec Ideal S2x8257536 .f32) : FVec Ideal S2 .f32 :=
  Host.reduce FloatOps.minimumf x (constant S_ .f32 0x7F800000#32) reducesTo_S2x8257536_S2_d1 h_S_
def high (x : FVec Ideal S2x8257536 .f32) : FVec Ideal S2 .f32 :=
  Host.reduce FloatOps.maximumf x (constant S_ .f32 0xFF800000#32) reducesTo_S2x8257536_S2_d1 h_S_

/-- The bin numbers of rows with the given least and greatest values. -/
def bins (x : FVec Ideal S2x8257536 .f32) (lo hi : FVec Ideal S2 .f32) : IVec S2x8257536 32 :=
  minsi (broadcastInDim S2x8257536 ![] bcast_S_S2x8257536 (id (constantI S_ 32 63#32)))
    (maxsi (broadcastInDim S2x8257536 ![] bcast_S_S2x8257536 (id (constantI S_ 32 0#32)))
      (fptosi 32 (mulf
        (Host.divf (subf x (broadcastInDim S2x8257536 ![0, 1] bcast_S2x1_S2x8257536_0_1 (broadcastInDim S2x1 ![0] bcast_S2_S2x1_0 lo)))
          (broadcastInDim S2x8257536 ![0, 1] bcast_S2x1_S2x8257536_0_1
            (addf (subf (broadcastInDim S2x1 ![0] bcast_S2_S2x1_0 hi) (broadcastInDim S2x1 ![0] bcast_S2_S2x1_0 lo))
              (broadcastInDim S2x1 ![] bcast_S_S2x1 (constant S_ .f32 0x2EDBE6FF#32)))))
        (broadcastInDim S2x8257536 ![] bcast_S_S2x8257536 (constant S_ .f32 0x427C0000#32)))))

/-- The cell each voxel is counted in: batch, first bin, second bin. -/
def place (f w : IVec S2x8257536 32) : IVec S2x8257536 32 :=
  addi (addi (broadcastInDim S2x8257536 ![0, 1] bcast_S2x1_S2x8257536_0_1 (broadcastInDim S2x1 ![0] bcast_S2_S2x1_0
      (muli (iotaInDim S2 32 0) (broadcastInDim S2 ![] bcast_S_S2 (constantI S_ 32 4096#32)))))
    (muli f (broadcastInDim S2x8257536 ![] bcast_S_S2x8257536 (constantI S_ 32 64#32)))) w

/-- The counts of all cells. -/
def counts (p : IVec S2x8257536 32) : FVec Ideal S8192 .f32 :=
  Host.scatterAdd scatter_S8192_S16515072x1_S16515072_n_0_0_1 (broadcastInDim S8192 ![] bcast_S_S8192 (constant S_ .f32 0x00000000#32))
    (broadcastInDim S16515072x1 ![0] bcast_S16515072_S16515072x1_0 (shapeCast S16515072 p shapeCasts_S2x8257536_S16515072))
    (broadcastInDim S16515072 ![] bcast_S_S16515072 (constant S_ .f32 0x3F800000#32))

/-- The counts as parts of all. -/
def parts (n : FVec Ideal S2x64x64 .f32) : FVec Ideal S2x64x64 .f32 :=
  Host.divf n (broadcastInDim S2x64x64 ![0, 1, 2] bcast_S2x1x1_S2x64x64_0_1_2
    (addf (broadcastInDim S2x1x1 ![0] bcast_S2_S2x1x1_0 (Host.reduceAdd n (constant S_ .f32 0x00000000#32) reducesTo_S2x64x64_S2_d1_2 h_S_))
      (broadcastInDim S2x1x1 ![] bcast_S_S2x1x1 (constant S_ .f32 0x2EDBE6FF#32))))

/-- The entropy of each row of parts, and of each table. -/
def entropyRow (p : FVec Ideal S2x64 .f32) : FVec Ideal S2 .f32 :=
  Host.negf (Host.reduceAdd (mulf p (Host.log (addf p (broadcastInDim S2x64 ![] bcast_S_S2x64 (constant S_ .f32 0x2EDBE6FF#32)))))
    (constant S_ .f32 0x00000000#32) reducesTo_S2x64_S2_d1 h_S_)
def entropyTab (p : FVec Ideal S2x64x64 .f32) : FVec Ideal S2 .f32 :=
  Host.negf (Host.reduceAdd (mulf p (Host.log (addf p (broadcastInDim S2x64x64 ![] bcast_S_S2x64x64 (constant S_ .f32 0x2EDBE6FF#32)))))
    (constant S_ .f32 0x00000000#32) reducesTo_S2x64x64_S2_d1_2 h_S_)

/-- The normalised mutual information of each table of parts. -/
def info (p : FVec Ideal S2x64x64 .f32) : FVec Ideal S2 .f32 :=
  Host.divf
    (mulf (broadcastInDim S2 ![] bcast_S_S2 (constant S_ .f32 0x40000000#32))
      (subf (addf (entropyRow (Host.reduceAdd p (constant S_ .f32 0x00000000#32) reducesTo_S2x64x64_S2x64_d2 h_S_))
        (entropyRow (Host.reduceAdd p (constant S_ .f32 0x00000000#32) reducesTo_S2x64x64_S2x64_d1 h_S_))) (entropyTab p)))
    (addf (addf (entropyRow (Host.reduceAdd p (constant S_ .f32 0x00000000#32) reducesTo_S2x64x64_S2x64_d2 h_S_))
        (entropyRow (Host.reduceAdd p (constant S_ .f32 0x00000000#32) reducesTo_S2x64x64_S2x64_d1 h_S_)))
      (broadcastInDim S2 ![] bcast_S_S2 (constant S_ .f32 0x2EDBE6FF#32)))

/-- The loss, from the affine rows and the tables of parts. -/
def total (a t : FVec Ideal S2x12 .f32) (p : FVec Ideal S2x64x64 .f32) : FVec Ideal S_ .f32 :=
  addf (mulf (constant S_ .f32 0x3F800000#32)
      (Host.divf (Host.reduceAdd (mulf (subf a t) (subf a t)) (constant S_ .f32 0x00000000#32) reducesTo_S2x12_S_d0_1 h_S_) (constant S_ .f32 0x41C00000#32)))
    (mulf (constant S_ .f32 0x3F800000#32)
      (Host.negf (Host.divf (Host.reduceAdd (info p) (constant S_ .f32 0x00000000#32) reducesTo_S2_S_d0 h_S_) (constant S_ .f32 0x40000000#32))))

/-- The tables of counts of two volume arrays. -/
def tables (f w : FVec Ideal S2x1x192x224x192 .f32) : FVec Ideal S2x64x64 .f32 :=
  shapeCast S2x64x64 (counts (place (bins (flat f) (low (flat f)) (high (flat f))) (bins (flat w) (low (flat w)) (high (flat w))))) shapeCasts_S8192_S2x64x64

/-- The reference's result in these steps. -/
theorem result_eq (m : (ℓ : Loc nD τ sig) → Buf (Elt Ideal) ℓ) (c : Dev nD) :
    Cert.ReferenceIdeal.Value.res_out0 m c = total (m ((c.tc : Thread nD τ).loc main_arg0)) (m ((c.tc : Thread nD τ).loc main_arg1))
      (parts (tables (m ((c.tc : Thread nD τ).loc main_arg2)) (m ((c.tc : Thread nD τ).loc main_arg3)))) := by
  change Cert.ReferenceIdeal.Value.res_main_v92 m c = _
  unfold Cert.ReferenceIdeal.Value.res_main_v92 total info entropyRow entropyTab parts tables counts place bins low high flat
  rfl

end Cert.Value.Ref

end
-- ==== Proof.Value.RefRows.lean ====
module

public import proofs.«01_k».proof.Proof.Value.RefTerm
public import proofs.«01_k».proof.Proof.Value.Ranges
public import Idealize.ShloMosaic.Lib.Pointwise

@[expose] public section

set_option maxRecDepth 16384

noncomputable section

open scoped BigOperators

namespace Cert.Value.Ref

open Idealize.ShloMosaic Cert.ReferenceIdeal Cert.ReferenceIdeal.Gen

/-- Where a voxel stands in the long row of its volume. -/
def spot : Vox ≃ Fin 8257536 where
  toFun v := ⟨v.1.val * 43008 + v.2.1.val * 192 + v.2.2.val, by have := v.1.isLt; have := v.2.1.isLt; have := v.2.2.isLt; omega⟩
  invFun k := (⟨k.val / 43008, by have := k.isLt; omega⟩, ⟨k.val / 192 % 224, by omega⟩, ⟨k.val % 192, by omega⟩)
  left_inv := by
    rintro ⟨p, h, l⟩
    refine Prod.ext (Fin.ext ?_) (Prod.ext (Fin.ext ?_) (Fin.ext ?_))
    · change (p.val * 43008 + h.val * 192 + l.val) / 43008 = p.val; omega
    · change (p.val * 43008 + h.val * 192 + l.val) / 192 % 224 = h.val; omega
    · change (p.val * 43008 + h.val * 192 + l.val) % 192 = l.val; omega
  right_inv := by
    intro k
    apply Fin.ext
    change k.val / 43008 * 43008 + k.val / 192 % 224 * 192 + k.val % 192 = k.val
    omega

variable (A : FVec Ideal S2x1x192x224x192 .f32) (b : Fin 2)

theorem flat_at (k : Fin 8257536) : flat A (ix2 b k) = voxels A b (spot.symm k) := by
  pointwise [flat]
  rfl

theorem flat_spot (v : Vox) : flat A (ix2 b (spot v)) = voxels A b v := by
  rw [flat_at, Equiv.symm_apply_apply]

theorem low_fold (x : FVec Ideal S2x8257536 .f32) :
    low x (Idealize.ShloMosaic.ix1 b) = Finset.fold min (Ideal.ofBits FTy.f32 2139095040#32) (fun k => x (ix2 b k)) Finset.univ := by
  pointwise [low]
theorem high_fold (x : FVec Ideal S2x8257536 .f32) :
    high x (Idealize.ShloMosaic.ix1 b) = Finset.fold max (Ideal.ofBits FTy.f32 4286578688#32) (fun k => x (ix2 b k)) Finset.univ := by
  pointwise [high]

/-- The least and the greatest value of a row are those of its volume. -/
theorem low_flat : low (flat A) (Idealize.ShloMosaic.ix1 b) = least (voxels A b) := by
  refine eq_least _ _ fun z => ?_
  rw [low_fold, Finset.le_fold_min, top_word]
  constructor
  · intro h v
    exact (h.2 (spot v) (Finset.mem_univ _)).trans_eq (flat_spot A b v)
  · intro h
    exact ⟨le_top, fun k _ => (h _).trans_eq (flat_at A b k).symm⟩
theorem high_flat : high (flat A) (Idealize.ShloMosaic.ix1 b) = greatest (voxels A b) := by
  refine eq_greatest _ _ fun z => ?_
  rw [high_fold, Finset.fold_max_le, bot_word]
  constructor
  · intro h v
    exact (flat_spot A b v).symm.trans_le (h.2 (spot v) (Finset.mem_univ _))
  · intro h
    exact ⟨bot_le, fun k _ => (flat_at A b k).trans_le (h _)⟩

theorem bins_at (x : FVec Ideal S2x8257536 .f32) (lo hi : FVec Ideal S2 .f32) (k : Fin 8257536) :
    bins x lo hi (ix2 b k) = IntOp.minsi 63#32 (IntOp.maxsi 0#32 (Ideal.fptosi 32
      (Ideal.div (x (ix2 b k) - lo (Idealize.ShloMosaic.ix1 b)) (hi (Idealize.ShloMosaic.ix1 b) - lo (Idealize.ShloMosaic.ix1 b) + eps)
        * Ideal.ofBits FTy.f32 1115422720#32))) := by
  pointwise [bins]
  rfl

/-- The bin of a voxel, as a number. -/
abbrev binAt (v : Vox) : ℕ := binOf (least (voxels A b)) (greatest (voxels A b)) (voxels A b v)

/-- The reference's bin numbers are the bins. -/
theorem bins_flat (v : Vox) : bins (flat A) (low (flat A)) (high (flat A)) (ix2 b (spot v)) = BitVec.ofNat 32 (binAt A b v) := by
  rw [bins_at, low_flat, high_flat, flat_spot, top_bin_word, div_eq_mul (range_ne (least_le_greatest _)), word_level]
  rfl

/-- The cell of a voxel with given bins, as a word. -/
theorem place_at (x y : IVec S2x8257536 32) (k : Fin 8257536) (n q : ℕ) (hx : x (ix2 b k) = BitVec.ofNat 32 n) (hy : y (ix2 b k) = BitVec.ofNat 32 q) :
    place x y (ix2 b k) = BitVec.ofNat 32 (b.val * 4096 + n * 64 + q) := by
  have e : place x y (ix2 b k) = IntOp.addi (IntOp.addi (IntOp.muli (BitVec.ofNat 32 b.val) 4096#32) (IntOp.muli (x (ix2 b k)) 64#32)) (y (ix2 b k)) := by
    pointwise [place]
  rw [e, hx, hy]
  unfold IntOp.addi IntOp.muli
  simp only [BitVec.ofNat_add, BitVec.ofNat_mul]

end Cert.Value.Ref

end
-- ==== Proof.Value.RefCounts.lean ====
module

public import proofs.«01_k».proof.Proof.Value.RefRows
public import Idealize.ShloMosaic.Lib.WordArith

@[expose] public section

set_option maxRecDepth 16384

noncomputable section

open scoped BigOperators

namespace Cert.Value.Ref

open Idealize.ShloMosaic Cert.ReferenceIdeal Cert.ReferenceIdeal.Gen

/-- How the reference's counting lays out its indices. -/
abbrev lay : ScatterDims S8192 S16515072x1 S16515072 := scatter_S8192_S16515072x1_S16515072_n_0_0_1

theorem lay_axis : lay.indexVectorDim = 1 := rfl
theorem lay_mem : (0 : Fin 1) ∈ lay.scatterDimsToOperandDims := List.mem_singleton.2 rfl

/-- The count's one axis is not a window axis. -/
theorem lay_window (i : Fin 16515072) : lay.window (Idealize.ShloMosaic.ix1 i) 0 = 0 := by
  unfold ScatterDims.window
  refine dif_neg fun h => ?_
  have h2 : ¬ (0 : Fin 1) ∈ lay.insertedWindowDims := of_decide_eq_true (List.mem_filter.1 h).2
  exact h2 (List.mem_singleton.2 rfl)

/-- Each count starts at its index word. -/
theorem lay_start (idx : IVec S16515072x1 32) (i : Fin 16515072) : lay.start (Idealize.ShloMosaic.ix1 i) idx 0 = (idx (ix2 i 0)).toInt := by
  unfold ScatterDims.start
  rw [dif_pos lay_mem]
  refine congrArg (fun j => (idx j).toInt) (funext fun a => Fin.ext ?_)
  match a with
  | ⟨0, _⟩ =>
    unfold ScatterDims.siIdx
    rw [dif_neg (by rw [lay_axis]; exact Nat.zero_ne_one)]
    unfold ScatterDims.siCoord
    rw [Fin.val_cast]
    have e : ∀ x : Fin 1, ((Idealize.ShloMosaic.ix1 i : S16515072.Idx) x).val = i.val := fun x => by
      rw [Subsingleton.elim x 0]; rfl
    exact e _
  | ⟨1, _⟩ =>
    unfold ScatterDims.siIdx
    rw [dif_pos (by rw [lay_axis])]
    rfl

/-- A count lands in a cell exactly when its index word is the cell's number. -/
theorem lay_lands (idx : IVec S16515072x1 32) (i : Fin 16515072) (x : Fin 8192) :
    lay.resultIdx? (Idealize.ShloMosaic.ix1 i) idx = some (Idealize.ShloMosaic.ix1 x) ↔ (idx (ix2 i 0)).toInt = (x.val : ℤ) := by
  have hs : ∀ a : Fin 1, lay.start (Idealize.ShloMosaic.ix1 i) idx a + (lay.window (Idealize.ShloMosaic.ix1 i) a : ℤ) = (idx (ix2 i 0)).toInt := fun a => by
    rw [Subsingleton.elim a 0, lay_start, lay_window]; simp
  have hx := x.isLt
  unfold ScatterDims.resultIdx?
  split
  · next h =>
    have h0 := h 0
    rw [hs 0] at h0
    constructor
    · intro e
      have e0 : (lay.start (Idealize.ShloMosaic.ix1 i) idx 0 + (lay.window (Idealize.ShloMosaic.ix1 i) 0 : ℤ)).toNat = x.val :=
        congrArg Fin.val (congrFun (Option.some.inj e) 0)
      rw [hs 0] at e0
      omega
    · intro e
      refine congrArg some (funext fun a => Fin.ext ?_)
      obtain rfl : a = 0 := Subsingleton.elim _ _
      change (lay.start (Idealize.ShloMosaic.ix1 i) idx 0 + (lay.window (Idealize.ShloMosaic.ix1 i) 0 : ℤ)).toNat = x.val
      rw [hs 0]
      omega
  · next h =>
    refine iff_of_false (fun e => by cases e) fun e => h fun a => ?_
    rw [hs a]
    obtain rfl : a = 0 := Subsingleton.elim _ _
    change 0 ≤ (idx (ix2 i 0)).toInt ∧ (idx (ix2 i 0)).toInt < (8192 : ℕ)
    omega

/-- Where a voxel of a batch stands among all counts. -/
def turn : Fin 2 × Vox ≃ S16515072.Idx where
  toFun u := Idealize.ShloMosaic.ix1 ⟨u.1.val * 8257536 + (spot u.2).val, by have := u.1.isLt; have := (spot u.2).isLt; omega⟩
  invFun j := (⟨(j 0).val / 8257536, by have : (j 0).val < 16515072 := (j 0).isLt; omega⟩, spot.symm ⟨(j 0).val % 8257536, by omega⟩)
  left_inv := by
    rintro ⟨b, v⟩
    have hv := (spot v).isLt
    refine Prod.ext (Fin.ext ?_) ?_
    · change (b.val * 8257536 + (spot v).val) / 8257536 = b.val; omega
    · refine (Equiv.symm_apply_eq spot).2 (Fin.ext ?_)
      change (b.val * 8257536 + (spot v).val) % 8257536 = (spot v).val; omega
  right_inv := by
    intro j
    funext a
    obtain rfl : a = 0 := Subsingleton.elim _ _
    apply Fin.ext
    change (j 0).val / 8257536 * 8257536 + (spot (spot.symm ⟨(j 0).val % 8257536, _⟩)).val = (j 0).val
    rw [Equiv.apply_symm_apply]
    change (j 0).val / 8257536 * 8257536 + (j 0).val % 8257536 = (j 0).val
    omega

/-- The list of index words. -/
abbrev words (p : IVec S2x8257536 32) : IVec S16515072x1 32 :=
  broadcastInDim S16515072x1 ![0] bcast_S16515072_S16515072x1_0 (shapeCast S16515072 p shapeCasts_S2x8257536_S16515072)

theorem words_split (p : IVec S2x8257536 32) (k : Fin 16515072) :
    words p (ix2 k 0) = p (ix2 ⟨k.val / 8257536, by have := k.isLt; omega⟩ ⟨k.val % 8257536, by omega⟩) := by
  pointwise [words]

theorem words_at (p : IVec S2x8257536 32) (b : Fin 2) (v : Vox) : words p (ix2 (turn (b, v) 0) 0) = p (ix2 b (spot v)) := by
  refine (words_split p (turn (b, v) 0)).trans ?_
  have hv := (spot v).isLt
  refine congrArg₂ (fun x y => p (ix2 x y)) (Fin.ext ?_) (Fin.ext ?_)
  · change (b.val * 8257536 + (spot v).val) / 8257536 = b.val; omega
  · change (b.val * 8257536 + (spot v).val) % 8257536 = (spot v).val; omega

/-- A sum over all counts, by batch and voxel. -/
theorem sum_turn (F : S16515072.Idx → EReal) : ∑ j, F j = ∑ b : Fin 2, ∑ v : Vox, F (turn (b, v)) := by
  rw [← Equiv.sum_comp turn, Fintype.sum_prod_type]

/-- Counting ones from zero: how many updates land in a cell. -/
theorem scatter_ones {s t u : Shape} {n : ℕ} (d : ScatterDims s t u) (x : FVec Ideal s .f32) (idx : IVec t n) (y : FVec Ideal u .f32) (i : s.Idx)
    (hx : x i = 0) (hy : ∀ j, y j = 1) : Host.scatterAdd d x idx y i = ∑ j, if d.resultIdx? j idx = some i then (1 : EReal) else 0 := by
  have e : Host.scatterAdd d x idx y i = x i + ∑ j ∈ Finset.univ.filter (fun j => d.resultIdx? j idx = some i), y j := rfl
  rw [e, hx, zero_add, Finset.sum_filter]
  exact Finset.sum_congr rfl fun j _ => by rw [hy]

theorem lands_turn (p : IVec S2x8257536 32) (x : Fin 8192) (b : Fin 2) (v : Vox) :
    lay.resultIdx? (turn (b, v)) (words p) = some (Idealize.ShloMosaic.ix1 x) ↔ (p (ix2 b (spot v))).toInt = (x.val : ℤ) := by
  have h := lay_lands (words p) (turn (b, v) 0) x
  rw [words_at] at h
  exact h

/-- A cell's count: the voxels whose index word is the cell's number. -/
theorem counts_at (p : IVec S2x8257536 32) (x : Fin 8192) :
    counts p (Idealize.ShloMosaic.ix1 x) = ∑ b : Fin 2, ∑ v : Vox, if (p (ix2 b (spot v))).toInt = (x.val : ℤ) then (1 : EReal) else 0 := by
  unfold counts
  refine (scatter_ones lay _ (words p) _ _ zero_word fun _ => one_word).trans ?_
  rw [sum_turn]
  exact Finset.sum_congr rfl fun b _ => Finset.sum_congr rfl fun v _ => if_congr (lands_turn p x b v) rfl rfl

theorem tables_split (f w : FVec Ideal S2x1x192x224x192 .f32) (b : Fin 2) (x y : Fin 64) :
    tables f w (ix3 b x y) = counts (place (bins (flat f) (low (flat f)) (high (flat f))) (bins (flat w) (low (flat w)) (high (flat w))))
      (Idealize.ShloMosaic.ix1 ⟨b.val * 4096 + x.val * 64 + y.val, by have := b.isLt; have := x.isLt; have := y.isLt; omega⟩) := by
  pointwise [tables]

/-- The tables hold the counts of the cells. -/
theorem tables_at (f w : FVec Ideal S2x1x192x224x192 .f32) (b : Fin 2) (x y : Fin 64) :
    tables f w (ix3 b x y) = cell (voxels f b) (voxels w b) x y := by
  rw [tables_split, counts_at]
  have hb := b.isLt
  have hx := x.isLt
  have hy := y.isLt
  have key : ∀ (d : Fin 2) (v : Vox), (if (place (bins (flat f) (low (flat f)) (high (flat f))) (bins (flat w) (low (flat w)) (high (flat w)))
      (ix2 d (spot v))).toInt = ((b.val * 4096 + x.val * 64 + y.val : ℕ) : ℤ) then (1 : EReal) else 0)
      = if d = b then hit (binAt f d v) (binAt w d v) x y else 0 := fun d v => by
    have hn : binAt f d v < 64 := binOf_lt _ _ _
    have hq : binAt w d v < 64 := binOf_lt _ _ _
    have hd := d.isLt
    rw [place_at d _ _ (spot v) _ _ (bins_flat f d v) (bins_flat w d v), WordArith.toInt_ofNat_small _ (by omega)]
    unfold hit
    rw [← ite_and]
    refine if_congr ?_ rfl rfl
    rw [Fin.ext_iff]
    omega
  rw [Finset.sum_congr rfl fun d _ => Finset.sum_congr rfl fun v _ => key d v, Finset.sum_eq_single b]
  · exact Finset.sum_congr rfl fun v _ => if_pos rfl
  · intro d _ hd
    exact Finset.sum_eq_zero fun v _ => if_neg hd
  · intro h
    exact absurd (Finset.mem_univ b) h

end Cert.Value.Ref

end
-- ==== Proof.Value.Reference.lean ====
module

public import proofs.«01_k».proof.Proof.Value.RefCounts

@[expose] public section

set_option maxRecDepth 16384

noncomputable section

open scoped BigOperators

namespace Cert.Value.Ref

open Idealize.ShloMosaic Cert.ReferenceIdeal Cert.ReferenceIdeal.Gen

theorem cell_nonneg (f w : Vox → EReal) (a b : Fin 64) : 0 ≤ cell f w a b :=
  Finset.sum_nonneg fun v _ => by
    unfold hit
    split
    · exact zero_le_one
    · exact le_rfl

/-- The reference's division by the number of voxels gives the same parts. -/
theorem parts_at (f w : FVec Ideal S2x1x192x224x192 .f32) (b : Fin 2) (x y : Fin 64) :
    parts (tables f w) (ix3 b x y) = joint (cell (voxels f b) (voxels w b)) x y := by
  have e : parts (tables f w) (ix3 b x y) = Ideal.div (tables f w (ix3 b x y)) ((∑ a, ∑ d, tables f w (ix3 b a d)) + eps) := by
    generalize tables f w = n
    pointwise [parts]
  rw [e]
  simp only [tables_at]
  exact div_eq_mul (ne_of_gt (add_eps_pos (Finset.sum_nonneg fun _ _ => Finset.sum_nonneg fun _ _ => cell_nonneg _ _ _ _)))

/-- The normalised mutual information of a table. -/
theorem info_at (p : FVec Ideal S2x64x64 .f32) (b : Fin 2) : info p (Idealize.ShloMosaic.ix1 b) = shared (fun x y => p (ix3 b x y)) := by
  pointwise [info, entropyRow, entropyTab]
  rfl

theorem total_at (a t : FVec Ideal S2x12 .f32) (p : FVec Ideal S2x64x64 .f32) (i : S_.Idx) :
    total a t p i = Ideal.div (∑ b, ∑ k, (a (ix2 b k) - t (ix2 b k)) * (a (ix2 b k) - t (ix2 b k))) (Ideal.ofBits .f32 0x41C00000#32)
      + -(Ideal.div (∑ b, info p (Idealize.ShloMosaic.ix1 b)) (Ideal.ofBits .f32 0x40000000#32)) := by
  pointwise [total]

/-- The reference's result is the loss. -/
theorem total_loss (a t : FVec Ideal S2x12 .f32) (f w : FVec Ideal S2x1x192x224x192 .f32) (i : S_.Idx) :
    total a t (parts (tables f w)) i = loss (fun b k => a (ix2 b k)) (fun b k => t (ix2 b k)) (voxels f) (voxels w) := by
  rw [total_at]
  simp only [info_at, parts_at]
  rfl

end Cert.Value.Ref

end
-- ==== Proof.Value.Algebraic.lean ====
module

public import proofs.«01_k».proof.Defs
public import proofs.«01_k».proof.Proof.Value.Result
public import proofs.«01_k».proof.Proof.Value.Reference

@[expose] public section

set_option maxRecDepth 16384

noncomputable section

namespace Cert.Value

open Idealize.ShloMosaic Idealize.SL.Sem

/-- The kernel runs to its end with the loss as its result and its arguments unchanged. -/
theorem kernel_run (m : (ℓ : Loc Cert.KernelIdeal.nD Cert.KernelIdeal.τ Cert.KernelIdeal.sig) → Buf (Elt Ideal) ℓ) (g : Dev Cert.KernelIdeal.nD → PrngReg) :
    open Cert.KernelIdeal Cert.KernelIdeal.Gen in
    θ_run (defs (F := Ideal)) (onTc (τ := τ) (main (F := Ideal))) ⟨m, fun _ => 0, g⟩ (fun r => ∀ c : Dev nD,
      r.2.mem ((c.tc : Thread nD τ).loc main_v14) = tail (lines m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  open Cert.KernelIdeal Cert.KernelIdeal.Gen in
  exact (θ_run defs _ _).mono (fun _ h c => ⟨
      ((h.1 c).2 main_v14 (Pipeline.mem_restRefs_of main_v14 (by decide) (by decide))).trans (after_tail m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).1 2).trans (((dats m 0 c).arrAt_in 2 rfl _).trans ((dats_A m c 2).trans (V_main_arg2 m c))),
      ((h.1 c).1 3).trans (((dats m 0 c).arrAt_in 3 rfl _).trans ((dats_A m c 3).trans (V_main_arg3 m c)))⟩) (run_all m g)

/-- Both results are the same loss. -/
theorem same_result (m : (ℓ : Loc Cert.KernelIdeal.nD Cert.KernelIdeal.τ Cert.KernelIdeal.sig) → Buf (Elt Ideal) ℓ) (c : Dev Cert.KernelIdeal.nD) :
    Ref.total (argP m c) (argT m c) (Ref.parts (Ref.tables (argF m c) (argW m c))) = tail (lines m c) :=
  funext fun i => (Ref.total_loss (argP m c) (argT m c) (argF m c) (argW m c) i).trans (tail_loss m c i).symm

/-- The kernel and the reference end with equal results. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => tail (lines m c), kernel_run m g, ?_⟩
  refine (θ_run _ _ _).mono (fun r h c => ⟨?_, (h c).2⟩) (Cert.ReferenceIdeal.Value.run m' g')
  obtain ⟨h0, h1, h2, h3⟩ := hm c
  refine (h c).1.trans ((Ref.result_eq m' c).trans ?_)
  rw [h0, h1, h2, h3]
  exact same_result m c

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Steps
public import proofs.«01_k».proof.Proof.Ideal.Steps
public import proofs.«01_k».proof.Proof.Value.Algebraic
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments and every counter. -/
theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The claims. -/
theorem claim : Cert.Claim := ⟨Cert.Kernel.Gen.facts, Cert.KernelIdeal.Gen.facts, Cert.ReferenceIdeal.Gen.facts,
  fun m g _ => Cert.Kernel.Gen.frame_and_counters m g, fun m g _ => Cert.KernelIdeal.Gen.frame_and_counters m g, reference_frame, trivial,
  Cert.Value.algebraic⟩

end Cert.Proof

end
